-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024 : Shape := ⟨1, ![1024]⟩
abbrev S100000x16 : Shape := ⟨2, ![100000, 16]⟩
abbrev S16x16 : Shape := ⟨2, ![16, 16]⟩
abbrev S16 : Shape := ⟨1, ![16]⟩
abbrev S16x100000 : Shape := ⟨2, ![16, 100000]⟩
abbrev S100000 : Shape := ⟨1, ![100000]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S100000x16 .f32) (main_arg2 : FVec F S16x16 .f32) (main_arg3 : FVec F S16 .f32) (main_arg4 : FVec F S16x100000 .f32) (main_arg5 : FVec F S100000 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 100000#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024 : Shape := ⟨1, ![1024]⟩
abbrev S100000x16 : Shape := ⟨2, ![100000, 16]⟩
abbrev S16x16 : Shape := ⟨2, ![16, 16]⟩
abbrev S16 : Shape := ⟨1, ![16]⟩
abbrev S16x100000 : Shape := ⟨2, ![16, 100000]⟩
abbrev S100000 : Shape := ⟨1, ![100000]⟩
abbrev S16x1024 : Shape := ⟨2, ![16, 1024]⟩
abbrev S_ : Shape := ⟨0, ![]⟩
abbrev S1x100000 : Shape := ⟨2, ![1, 100000]⟩
abbrev S1x1024 : Shape := ⟨2, ![1, 1024]⟩
abbrev S16x1 : Shape := ⟨2, ![16, 1]⟩
abbrev S100000x1024 : Shape := ⟨2, ![100000, 1024]⟩
abbrev S16x2048 : Shape := ⟨2, ![16, 2048]⟩
abbrev S2048 : Shape := ⟨1, ![2048]⟩
abbrev S2048x1024 : Shape := ⟨2, ![2048, 1024]⟩
abbrev S17x1024 : Shape := ⟨2, ![17, 1024]⟩
abbrev S17x2048 : Shape := ⟨2, ![17, 2048]⟩
abbrev S1x2048 : Shape := ⟨2, ![1, 2048]⟩
abbrev S1024x100000 : Shape := ⟨2, ![1024, 100000]⟩

abbrev nBuf : Table → Nat
  | .hbm => 11
  | .local .tc .vmem => 11
  | .local .scVector .vmem => 3
  | _ => 0

abbrev bufTy : (tb : Table) → Fin (nBuf tb) → BufTy
  | .hbm, ⟨0, _⟩ => ⟨S1024, .i32⟩
  | .hbm, ⟨1, _⟩ => ⟨S100000x16, .f32⟩
  | .hbm, ⟨2, _⟩ => ⟨S16x16, .f32⟩
  | .hbm, ⟨3, _⟩ => ⟨S16, .f32⟩
  | .hbm, ⟨4, _⟩ => ⟨S16x100000, .f32⟩
  | .hbm, ⟨5, _⟩ => ⟨S100000, .f32⟩
  | .hbm, ⟨6, _⟩ => ⟨S16x100000, .f32⟩
  | .hbm, ⟨7, _⟩ => ⟨S16x1024, .f32⟩
  | .hbm, ⟨8, _⟩ => ⟨S16x1, .f32⟩
  | .hbm, ⟨9, _⟩ => ⟨S100000x1024, .f32⟩
  | .hbm, ⟨10, _⟩ => ⟨S1024x100000, .f32⟩
  | .local .tc .vmem, ⟨0, _⟩ => ⟨S16x1024, .f32⟩
  | .local .tc .vmem, ⟨1, _⟩ => ⟨S16x16, .f32⟩
  | .local .tc .vmem, ⟨2, _⟩ => ⟨S16x1, .f32⟩
  | .local .tc .vmem, ⟨3, _⟩ => ⟨S16x2048, .f32⟩
  | .local .tc .vmem, ⟨4, _⟩ => ⟨S16x2048, .f32⟩
  | .local .tc .vmem, ⟨5, _⟩ => ⟨S2048, .f32⟩
  | .local .tc .vmem, ⟨6, _⟩ => ⟨S2048, .f32⟩
  | .local .tc .vmem, ⟨7, _⟩ => ⟨S2048x1024, .f32⟩
  | .local .tc .vmem, ⟨8, _⟩ => ⟨S2048x1024, .f32⟩
  | .local .tc .vmem, ⟨9, _⟩ => ⟨S17x1024, .f32⟩
  | .local .tc .vmem, ⟨10, _⟩ => ⟨S17x2048, .f32⟩
  | .local .scVector .vmem, ⟨0, _⟩ => ⟨S100000, .f32⟩
  | .local .scVector .vmem, ⟨1, _⟩ => ⟨S1024, .i32⟩
  | .local .scVector .vmem, ⟨2, _⟩ => ⟨S1024, .f32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v0_scv : Ref sig .scVector := ⟨.hbm, 6, rfl⟩
abbrev main_arg0_scv : Ref sig .scVector := ⟨.hbm, 0, rfl⟩
abbrev main_v1_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg3_1 : Ref sig .tc := ⟨.vmem, 4, rfl⟩
abbrev cc1_stg4_0 : Ref sig .tc := ⟨.vmem, 5, rfl⟩
abbrev cc1_stg4_1 : Ref sig .tc := ⟨.vmem, 6, rfl⟩
abbrev cc1_stg5_0 : Ref sig .tc := ⟨.vmem, 7, rfl⟩
abbrev cc1_stg5_1 : Ref sig .tc := ⟨.vmem, 8, rfl⟩
abbrev cc1_scratch0 : Ref sig .tc := ⟨.vmem, 9, rfl⟩
abbrev cc1_scratch1 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev cc1_sem3_0 : DmaSem sig := 6
abbrev cc1_sem3_1 : DmaSem sig := 7
abbrev cc1_sem4_0 : DmaSem sig := 8
abbrev cc1_sem4_1 : DmaSem sig := 9
abbrev cc1_sem5_0 : DmaSem sig := 10
abbrev cc1_sem5_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_64_r0 : BitVec 32 := 0#32
  ![v1.toNat, 0]

def k0_chk1 (i : grid0.Coords) (v5 : IVec S16 32) : Prop :=
  (∀ (k0_h1 : k0_cond1 i = 1#1), ∀ a x, ((![v5] : Fin 1 → IVec S16 32) a x).toNat < S100000.size a)
theorem k0_idx1_inb : ∀ (i : grid0.Coords) (v5 : IVec S16 32) (k0_hw1 : k0_chk1 i v5), ∀ (k0_h1 : k0_cond1 i = 1#1), ∀ a x, ((![v5] : Fin 1 → IVec S16 32) a x).toNat < S100000.size a := fun i v5 k0_hw1 k0_h1 => k0_hw1 k0_h1

def k0_chk2 (i : grid0.Coords) (v8 : IVec S16 32) : Prop :=
  (∀ (k0_h1 : k0_cond1 i = 1#1), ∀ a x, ((![v8] : Fin 1 → IVec S16 32) a x).toNat < S100000.size a)
theorem k0_idx2_inb : ∀ (i : grid0.Coords) (v8 : IVec S16 32) (k0_hw2 : k0_chk2 i v8), ∀ (k0_h1 : k0_cond1 i = 1#1), ∀ a x, ((![v8] : Fin 1 → IVec S16 32) a x).toNat < S100000.size a := fun i v8 k0_hw2 k0_h1 => k0_hw2 k0_h1

def k0_chk3 (i : grid0.Coords) (v11 : IVec S16 32) : Prop :=
  (∀ (k0_h1 : k0_cond1 i = 1#1), ∀ a x, ((![v11] : Fin 1 → IVec S16 32) a x).toNat < S100000.size a)
theorem k0_idx3_inb : ∀ (i : grid0.Coords) (v11 : IVec S16 32) (k0_hw3 : k0_chk3 i v11), ∀ (k0_h1 : k0_cond1 i = 1#1), ∀ a x, ((![v11] : Fin 1 → IVec S16 32) a x).toNat < S100000.size a := fun i v11 k0_hw3 k0_h1 => k0_hw3 k0_h1

def k0_chk4 (i : grid0.Coords) (v14 : IVec S16 32) : Prop :=
  (∀ (k0_h1 : k0_cond1 i = 1#1), ∀ a x, ((![v14] : Fin 1 → IVec S16 32) a x).toNat < S100000.size a)
theorem k0_idx4_inb : ∀ (i : grid0.Coords) (v14 : IVec S16 32) (k0_hw4 : k0_chk4 i v14), ∀ (k0_h1 : k0_cond1 i = 1#1), ∀ a x, ((![v14] : Fin 1 → IVec S16 32) a x).toNat < S100000.size a := fun i v14 k0_hw4 k0_h1 => k0_hw4 k0_h1

def k0_chk5 (i : grid0.Coords) (v17 : IVec S16 32) : Prop :=
  (∀ (k0_h1 : k0_cond1 i = 1#1), ∀ a x, ((![v17] : Fin 1 → IVec S16 32) a x).toNat < S100000.size a)
theorem k0_idx5_inb : ∀ (i : grid0.Coords) (v17 : IVec S16 32) (k0_hw5 : k0_chk5 i v17), ∀ (k0_h1 : k0_cond1 i = 1#1), ∀ a x, ((![v17] : Fin 1 → IVec S16 32) a x).toNat < S100000.size a := fun i v17 k0_hw5 k0_h1 => k0_hw5 k0_h1

def k0_chk6 (i : grid0.Coords) (v20 : IVec S16 32) : Prop :=
  (∀ (k0_h1 : k0_cond1 i = 1#1), ∀ a x, ((![v20] : Fin 1 → IVec S16 32) a x).toNat < S100000.size a)
theorem k0_idx6_inb : ∀ (i : grid0.Coords) (v20 : IVec S16 32) (k0_hw6 : k0_chk6 i v20), ∀ (k0_h1 : k0_cond1 i = 1#1), ∀ a x, ((![v20] : Fin 1 → IVec S16 32) a x).toNat < S100000.size a := fun i v20 k0_hw6 k0_h1 => k0_hw6 k0_h1

def k0_chk7 (i : grid0.Coords) (v23 : IVec S16 32) : Prop :=
  (∀ (k0_h1 : k0_cond1 i = 1#1), ∀ a x, ((![v23] : Fin 1 → IVec S16 32) a x).toNat < S100000.size a)
theorem k0_idx7_inb : ∀ (i : grid0.Coords) (v23 : IVec S16 32) (k0_hw7 : k0_chk7 i v23), ∀ (k0_h1 : k0_cond1 i = 1#1), ∀ a x, ((![v23] : Fin 1 → IVec S16 32) a x).toNat < S100000.size a := fun i v23 k0_hw7 k0_h1 => k0_hw7 k0_h1

def k0_chk8 (i : grid0.Coords) (v26 : IVec S16 32) : Prop :=
  (∀ (k0_h1 : k0_cond1 i = 1#1), ∀ a x, ((![v26] : Fin 1 → IVec S16 32) a x).toNat < S100000.size a)
theorem k0_idx8_inb : ∀ (i : grid0.Coords) (v26 : IVec S16 32) (k0_hw8 : k0_chk8 i v26), ∀ (k0_h1 : k0_cond1 i = 1#1), ∀ a x, ((![v26] : Fin 1 → IVec S16 32) a x).toNat < S100000.size a := fun i v26 k0_hw8 k0_h1 => k0_hw8 k0_h1

def k0_chk9 (i : grid0.Coords) (v29 : IVec S16 32) : Prop :=
  (∀ (k0_h1 : k0_cond1 i = 1#1), ∀ a x, ((![v29] : Fin 1 → IVec S16 32) a x).toNat < S100000.size a)
theorem k0_idx9_inb : ∀ (i : grid0.Coords) (v29 : IVec S16 32) (k0_hw9 : k0_chk9 i v29), ∀ (k0_h1 : k0_cond1 i = 1#1), ∀ a x, ((![v29] : Fin 1 → IVec S16 32) a x).toNat < S100000.size a := fun i v29 k0_hw9 k0_h1 => k0_hw9 k0_h1

def k0_chk10 (i : grid0.Coords) (v32 : IVec S16 32) : Prop :=
  (∀ (k0_h1 : k0_cond1 i = 1#1), ∀ a x, ((![v32] : Fin 1 → IVec S16 32) a x).toNat < S100000.size a)
theorem k0_idx10_inb : ∀ (i : grid0.Coords) (v32 : IVec S16 32) (k0_hw10 : k0_chk10 i v32), ∀ (k0_h1 : k0_cond1 i = 1#1), ∀ a x, ((![v32] : Fin 1 → IVec S16 32) a x).toNat < S100000.size a := fun i v32 k0_hw10 k0_h1 => k0_hw10 k0_h1

def k0_chk11 (i : grid0.Coords) (v35 : IVec S16 32) : Prop :=
  (∀ (k0_h1 : k0_cond1 i = 1#1), ∀ a x, ((![v35] : Fin 1 → IVec S16 32) a x).toNat < S100000.size a)
theorem k0_idx11_inb : ∀ (i : grid0.Coords) (v35 : IVec S16 32) (k0_hw11 : k0_chk11 i v35), ∀ (k0_h1 : k0_cond1 i = 1#1), ∀ a x, ((![v35] : Fin 1 → IVec S16 32) a x).toNat < S100000.size a := fun i v35 k0_hw11 k0_h1 => k0_hw11 k0_h1

def k0_chk12 (i : grid0.Coords) (v38 : IVec S16 32) : Prop :=
  (∀ (k0_h1 : k0_cond1 i = 1#1), ∀ a x, ((![v38] : Fin 1 → IVec S16 32) a x).toNat < S100000.size a)
theorem k0_idx12_inb : ∀ (i : grid0.Coords) (v38 : IVec S16 32) (k0_hw12 : k0_chk12 i v38), ∀ (k0_h1 : k0_cond1 i = 1#1), ∀ a x, ((![v38] : Fin 1 → IVec S16 32) a x).toNat < S100000.size a := fun i v38 k0_hw12 k0_h1 => k0_hw12 k0_h1

def k0_chk13 (i : grid0.Coords) (v41 : IVec S16 32) : Prop :=
  (∀ (k0_h1 : k0_cond1 i = 1#1), ∀ a x, ((![v41] : Fin 1 → IVec S16 32) a x).toNat < S100000.size a)
theorem k0_idx13_inb : ∀ (i : grid0.Coords) (v41 : IVec S16 32) (k0_hw13 : k0_chk13 i v41), ∀ (k0_h1 : k0_cond1 i = 1#1), ∀ a x, ((![v41] : Fin 1 → IVec S16 32) a x).toNat < S100000.size a := fun i v41 k0_hw13 k0_h1 => k0_hw13 k0_h1

def k0_chk14 (i : grid0.Coords) (v44 : IVec S16 32) : Prop :=
  (∀ (k0_h1 : k0_cond1 i = 1#1), ∀ a x, ((![v44] : Fin 1 → IVec S16 32) a x).toNat < S100000.size a)
theorem k0_idx14_inb : ∀ (i : grid0.Coords) (v44 : IVec S16 32) (k0_hw14 : k0_chk14 i v44), ∀ (k0_h1 : k0_cond1 i = 1#1), ∀ a x, ((![v44] : Fin 1 → IVec S16 32) a x).toNat < S100000.size a := fun i v44 k0_hw14 k0_h1 => k0_hw14 k0_h1

def k0_chk15 (i : grid0.Coords) (v47 : IVec S16 32) : Prop :=
  (∀ (k0_h1 : k0_cond1 i = 1#1), ∀ a x, ((![v47] : Fin 1 → IVec S16 32) a x).toNat < S100000.size a)
theorem k0_idx15_inb : ∀ (i : grid0.Coords) (v47 : IVec S16 32) (k0_hw15 : k0_chk15 i v47), ∀ (k0_h1 : k0_cond1 i = 1#1), ∀ a x, ((![v47] : Fin 1 → IVec S16 32) a x).toNat < S100000.size a := fun i v47 k0_hw15 k0_h1 => k0_hw15 k0_h1

def k0_chk16 (i : grid0.Coords) (v50 : IVec S16 32) : Prop :=
  (∀ (k0_h1 : k0_cond1 i = 1#1), ∀ a x, ((![v50] : Fin 1 → IVec S16 32) a x).toNat < S100000.size a)
theorem k0_idx16_inb : ∀ (i : grid0.Coords) (v50 : IVec S16 32) (k0_hw16 : k0_chk16 i v50), ∀ (k0_h1 : k0_cond1 i = 1#1), ∀ a x, ((![v50] : Fin 1 → IVec S16 32) a x).toNat < S100000.size a := fun i v50 k0_hw16 k0_h1 => k0_hw16 k0_h1

def k0_chk17 (i : grid0.Coords) (v53 : IVec S16 32) : Prop :=
  (∀ (k0_h1 : k0_cond1 i = 1#1), ∀ a x, ((![v53] : Fin 1 → IVec S16 32) a x).toNat < S100000.size a)
theorem k0_idx17_inb : ∀ (i : grid0.Coords) (v53 : IVec S16 32) (k0_hw17 : k0_chk17 i v53), ∀ (k0_h1 : k0_cond1 i = 1#1), ∀ a x, ((![v53] : Fin 1 → IVec S16 32) a x).toNat < S100000.size a := fun i v53 k0_hw17 k0_h1 => k0_hw17 k0_h1

def k0_chk18 (i : grid0.Coords) (v56 : IVec S16 32) : Prop :=
  (∀ (k0_h1 : k0_cond1 i = 1#1), ∀ a x, ((![v56] : Fin 1 → IVec S16 32) a x).toNat < S100000.size a)
theorem k0_idx18_inb : ∀ (i : grid0.Coords) (v56 : IVec S16 32) (k0_hw18 : k0_chk18 i v56), ∀ (k0_h1 : k0_cond1 i = 1#1), ∀ a x, ((![v56] : Fin 1 → IVec S16 32) a x).toNat < S100000.size a := fun i v56 k0_hw18 k0_h1 => k0_hw18 k0_h1

def k0_chk19 (i : grid0.Coords) (v59 : IVec S16 32) : Prop :=
  (∀ (k0_h1 : k0_cond1 i = 1#1), ∀ a x, ((![v59] : Fin 1 → IVec S16 32) a x).toNat < S100000.size a)
theorem k0_idx19_inb : ∀ (i : grid0.Coords) (v59 : IVec S16 32) (k0_hw19 : k0_chk19 i v59), ∀ (k0_h1 : k0_cond1 i = 1#1), ∀ a x, ((![v59] : Fin 1 → IVec S16 32) a x).toNat < S100000.size a := fun i v59 k0_hw19 k0_h1 => k0_hw19 k0_h1

def k0_chk20 (i : grid0.Coords) (v62 : IVec S16 32) : Prop :=
  (∀ (k0_h1 : k0_cond1 i = 1#1), ∀ a x, ((![v62] : Fin 1 → IVec S16 32) a x).toNat < S100000.size a)
theorem k0_idx20_inb : ∀ (i : grid0.Coords) (v62 : IVec S16 32) (k0_hw20 : k0_chk20 i v62), ∀ (k0_h1 : k0_cond1 i = 1#1), ∀ a x, ((![v62] : Fin 1 → IVec S16 32) a x).toNat < S100000.size a := fun i v62 k0_hw20 k0_h1 => k0_hw20 k0_h1

def k0_chk21 (i : grid0.Coords) (v65 : IVec S16 32) : Prop :=
  (∀ (k0_h1 : k0_cond1 i = 1#1), ∀ a x, ((![v65] : Fin 1 → IVec S16 32) a x).toNat < S100000.size a)
theorem k0_idx21_inb : ∀ (i : grid0.Coords) (v65 : IVec S16 32) (k0_hw21 : k0_chk21 i v65), ∀ (k0_h1 : k0_cond1 i = 1#1), ∀ a x, ((![v65] : Fin 1 → IVec S16 32) a x).toNat < S100000.size a := fun i v65 k0_hw21 k0_h1 => k0_hw21 k0_h1

def k0_chk22 (i : grid0.Coords) (v68 : IVec S16 32) : Prop :=
  (∀ (k0_h1 : k0_cond1 i = 1#1), ∀ a x, ((![v68] : Fin 1 → IVec S16 32) a x).toNat < S100000.size a)
theorem k0_idx22_inb : ∀ (i : grid0.Coords) (v68 : IVec S16 32) (k0_hw22 : k0_chk22 i v68), ∀ (k0_h1 : k0_cond1 i = 1#1), ∀ a x, ((![v68] : Fin 1 → IVec S16 32) a x).toNat < S100000.size a := fun i v68 k0_hw22 k0_h1 => k0_hw22 k0_h1

def k0_chk23 (i : grid0.Coords) (v71 : IVec S16 32) : Prop :=
  (∀ (k0_h1 : k0_cond1 i = 1#1), ∀ a x, ((![v71] : Fin 1 → IVec S16 32) a x).toNat < S100000.size a)
theorem k0_idx23_inb : ∀ (i : grid0.Coords) (v71 : IVec S16 32) (k0_hw23 : k0_chk23 i v71), ∀ (k0_h1 : k0_cond1 i = 1#1), ∀ a x, ((![v71] : Fin 1 → IVec S16 32) a x).toNat < S100000.size a := fun i v71 k0_hw23 k0_h1 => k0_hw23 k0_h1

def k0_chk24 (i : grid0.Coords) (v74 : IVec S16 32) : Prop :=
  (∀ (k0_h1 : k0_cond1 i = 1#1), ∀ a x, ((![v74] : Fin 1 → IVec S16 32) a x).toNat < S100000.size a)
theorem k0_idx24_inb : ∀ (i : grid0.Coords) (v74 : IVec S16 32) (k0_hw24 : k0_chk24 i v74), ∀ (k0_h1 : k0_cond1 i = 1#1), ∀ a x, ((![v74] : Fin 1 → IVec S16 32) a x).toNat < S100000.size a := fun i v74 k0_hw24 k0_h1 => k0_hw24 k0_h1

def k0_chk25 (i : grid0.Coords) (v77 : IVec S16 32) : Prop :=
  (∀ (k0_h1 : k0_cond1 i = 1#1), ∀ a x, ((![v77] : Fin 1 → IVec S16 32) a x).toNat < S100000.size a)
theorem k0_idx25_inb : ∀ (i : grid0.Coords) (v77 : IVec S16 32) (k0_hw25 : k0_chk25 i v77), ∀ (k0_h1 : k0_cond1 i = 1#1), ∀ a x, ((![v77] : Fin 1 → IVec S16 32) a x).toNat < S100000.size a := fun i v77 k0_hw25 k0_h1 => k0_hw25 k0_h1

def k0_chk26 (i : grid0.Coords) (v80 : IVec S16 32) : Prop :=
  (∀ (k0_h1 : k0_cond1 i = 1#1), ∀ a x, ((![v80] : Fin 1 → IVec S16 32) a x).toNat < S100000.size a)
theorem k0_idx26_inb : ∀ (i : grid0.Coords) (v80 : IVec S16 32) (k0_hw26 : k0_chk26 i v80), ∀ (k0_h1 : k0_cond1 i = 1#1), ∀ a x, ((![v80] : Fin 1 → IVec S16 32) a x).toNat < S100000.size a := fun i v80 k0_hw26 k0_h1 => k0_hw26 k0_h1

def k0_chk27 (i : grid0.Coords) (v83 : IVec S16 32) : Prop :=
  (∀ (k0_h1 : k0_cond1 i = 1#1), ∀ a x, ((![v83] : Fin 1 → IVec S16 32) a x).toNat < S100000.size a)
theorem k0_idx27_inb : ∀ (i : grid0.Coords) (v83 : IVec S16 32) (k0_hw27 : k0_chk27 i v83), ∀ (k0_h1 : k0_cond1 i = 1#1), ∀ a x, ((![v83] : Fin 1 → IVec S16 32) a x).toNat < S100000.size a := fun i v83 k0_hw27 k0_h1 => k0_hw27 k0_h1

def k0_chk28 (i : grid0.Coords) (v86 : IVec S16 32) : Prop :=
  (∀ (k0_h1 : k0_cond1 i = 1#1), ∀ a x, ((![v86] : Fin 1 → IVec S16 32) a x).toNat < S100000.size a)
theorem k0_idx28_inb : ∀ (i : grid0.Coords) (v86 : IVec S16 32) (k0_hw28 : k0_chk28 i v86), ∀ (k0_h1 : k0_cond1 i = 1#1), ∀ a x, ((![v86] : Fin 1 → IVec S16 32) a x).toNat < S100000.size a := fun i v86 k0_hw28 k0_h1 => k0_hw28 k0_h1

def k0_chk29 (i : grid0.Coords) (v89 : IVec S16 32) : Prop :=
  (∀ (k0_h1 : k0_cond1 i = 1#1), ∀ a x, ((![v89] : Fin 1 → IVec S16 32) a x).toNat < S100000.size a)
theorem k0_idx29_inb : ∀ (i : grid0.Coords) (v89 : IVec S16 32) (k0_hw29 : k0_chk29 i v89), ∀ (k0_h1 : k0_cond1 i = 1#1), ∀ a x, ((![v89] : Fin 1 → IVec S16 32) a x).toNat < S100000.size a := fun i v89 k0_hw29 k0_h1 => k0_hw29 k0_h1

def k0_chk30 (i : grid0.Coords) (v92 : IVec S16 32) : Prop :=
  (∀ (k0_h1 : k0_cond1 i = 1#1), ∀ a x, ((![v92] : Fin 1 → IVec S16 32) a x).toNat < S100000.size a)
theorem k0_idx30_inb : ∀ (i : grid0.Coords) (v92 : IVec S16 32) (k0_hw30 : k0_chk30 i v92), ∀ (k0_h1 : k0_cond1 i = 1#1), ∀ a x, ((![v92] : Fin 1 → IVec S16 32) a x).toNat < S100000.size a := fun i v92 k0_hw30 k0_h1 => k0_hw30 k0_h1

def k0_chk31 (i : grid0.Coords) (v95 : IVec S16 32) : Prop :=
  (∀ (k0_h1 : k0_cond1 i = 1#1), ∀ a x, ((![v95] : Fin 1 → IVec S16 32) a x).toNat < S100000.size a)
theorem k0_idx31_inb : ∀ (i : grid0.Coords) (v95 : IVec S16 32) (k0_hw31 : k0_chk31 i v95), ∀ (k0_h1 : k0_cond1 i = 1#1), ∀ a x, ((![v95] : Fin 1 → IVec S16 32) a x).toNat < S100000.size a := fun i v95 k0_hw31 k0_h1 => k0_hw31 k0_h1

def k0_chk32 (i : grid0.Coords) (v98 : IVec S16 32) : Prop :=
  (∀ (k0_h1 : k0_cond1 i = 1#1), ∀ a x, ((![v98] : Fin 1 → IVec S16 32) a x).toNat < S100000.size a)
theorem k0_idx32_inb : ∀ (i : grid0.Coords) (v98 : IVec S16 32) (k0_hw32 : k0_chk32 i v98), ∀ (k0_h1 : k0_cond1 i = 1#1), ∀ a x, ((![v98] : Fin 1 → IVec S16 32) a x).toNat < S100000.size a := fun i v98 k0_hw32 k0_h1 => k0_hw32 k0_h1

def k0_chk33 (i : grid0.Coords) (v101 : IVec S16 32) : Prop :=
  (∀ (k0_h1 : k0_cond1 i = 1#1), ∀ a x, ((![v101] : Fin 1 → IVec S16 32) a x).toNat < S100000.size a)
theorem k0_idx33_inb : ∀ (i : grid0.Coords) (v101 : IVec S16 32) (k0_hw33 : k0_chk33 i v101), ∀ (k0_h1 : k0_cond1 i = 1#1), ∀ a x, ((![v101] : Fin 1 → IVec S16 32) a x).toNat < S100000.size a := fun i v101 k0_hw33 k0_h1 => k0_hw33 k0_h1

def k0_chk34 (i : grid0.Coords) (v104 : IVec S16 32) : Prop :=
  (∀ (k0_h1 : k0_cond1 i = 1#1), ∀ a x, ((![v104] : Fin 1 → IVec S16 32) a x).toNat < S100000.size a)
theorem k0_idx34_inb : ∀ (i : grid0.Coords) (v104 : IVec S16 32) (k0_hw34 : k0_chk34 i v104), ∀ (k0_h1 : k0_cond1 i = 1#1), ∀ a x, ((![v104] : Fin 1 → IVec S16 32) a x).toNat < S100000.size a := fun i v104 k0_hw34 k0_h1 => k0_hw34 k0_h1

def k0_chk35 (i : grid0.Coords) (v107 : IVec S16 32) : Prop :=
  (∀ (k0_h1 : k0_cond1 i = 1#1), ∀ a x, ((![v107] : Fin 1 → IVec S16 32) a x).toNat < S100000.size a)
theorem k0_idx35_inb : ∀ (i : grid0.Coords) (v107 : IVec S16 32) (k0_hw35 : k0_chk35 i v107), ∀ (k0_h1 : k0_cond1 i = 1#1), ∀ a x, ((![v107] : Fin 1 → IVec S16 32) a x).toNat < S100000.size a := fun i v107 k0_hw35 k0_h1 => k0_hw35 k0_h1

def k0_chk36 (i : grid0.Coords) (v110 : IVec S16 32) : Prop :=
  (∀ (k0_h1 : k0_cond1 i = 1#1), ∀ a x, ((![v110] : Fin 1 → IVec S16 32) a x).toNat < S100000.size a)
theorem k0_idx36_inb : ∀ (i : grid0.Coords) (v110 : IVec S16 32) (k0_hw36 : k0_chk36 i v110), ∀ (k0_h1 : k0_cond1 i = 1#1), ∀ a x, ((![v110] : Fin 1 → IVec S16 32) a x).toNat < S100000.size a := fun i v110 k0_hw36 k0_h1 => k0_hw36 k0_h1

def k0_chk37 (i : grid0.Coords) (v113 : IVec S16 32) : Prop :=
  (∀ (k0_h1 : k0_cond1 i = 1#1), ∀ a x, ((![v113] : Fin 1 → IVec S16 32) a x).toNat < S100000.size a)
theorem k0_idx37_inb : ∀ (i : grid0.Coords) (v113 : IVec S16 32) (k0_hw37 : k0_chk37 i v113), ∀ (k0_h1 : k0_cond1 i = 1#1), ∀ a x, ((![v113] : Fin 1 → IVec S16 32) a x).toNat < S100000.size a := fun i v113 k0_hw37 k0_h1 => k0_hw37 k0_h1

def k0_chk38 (i : grid0.Coords) (v116 : IVec S16 32) : Prop :=
  (∀ (k0_h1 : k0_cond1 i = 1#1), ∀ a x, ((![v116] : Fin 1 → IVec S16 32) a x).toNat < S100000.size a)
theorem k0_idx38_inb : ∀ (i : grid0.Coords) (v116 : IVec S16 32) (k0_hw38 : k0_chk38 i v116), ∀ (k0_h1 : k0_cond1 i = 1#1), ∀ a x, ((![v116] : Fin 1 → IVec S16 32) a x).toNat < S100000.size a := fun i v116 k0_hw38 k0_h1 => k0_hw38 k0_h1

def k0_chk39 (i : grid0.Coords) (v119 : IVec S16 32) : Prop :=
  (∀ (k0_h1 : k0_cond1 i = 1#1), ∀ a x, ((![v119] : Fin 1 → IVec S16 32) a x).toNat < S100000.size a)
theorem k0_idx39_inb : ∀ (i : grid0.Coords) (v119 : IVec S16 32) (k0_hw39 : k0_chk39 i v119), ∀ (k0_h1 : k0_cond1 i = 1#1), ∀ a x, ((![v119] : Fin 1 → IVec S16 32) a x).toNat < S100000.size a := fun i v119 k0_hw39 k0_h1 => k0_hw39 k0_h1

def k0_chk40 (i : grid0.Coords) (v122 : IVec S16 32) : Prop :=
  (∀ (k0_h1 : k0_cond1 i = 1#1), ∀ a x, ((![v122] : Fin 1 → IVec S16 32) a x).toNat < S100000.size a)
theorem k0_idx40_inb : ∀ (i : grid0.Coords) (v122 : IVec S16 32) (k0_hw40 : k0_chk40 i v122), ∀ (k0_h1 : k0_cond1 i = 1#1), ∀ a x, ((![v122] : Fin 1 → IVec S16 32) a x).toNat < S100000.size a := fun i v122 k0_hw40 k0_h1 => k0_hw40 k0_h1

def k0_chk41 (i : grid0.Coords) (v125 : IVec S16 32) : Prop :=
  (∀ (k0_h1 : k0_cond1 i = 1#1), ∀ a x, ((![v125] : Fin 1 → IVec S16 32) a x).toNat < S100000.size a)
theorem k0_idx41_inb : ∀ (i : grid0.Coords) (v125 : IVec S16 32) (k0_hw41 : k0_chk41 i v125), ∀ (k0_h1 : k0_cond1 i = 1#1), ∀ a x, ((![v125] : Fin 1 → IVec S16 32) a x).toNat < S100000.size a := fun i v125 k0_hw41 k0_h1 => k0_hw41 k0_h1

def k0_chk42 (i : grid0.Coords) (v128 : IVec S16 32) : Prop :=
  (∀ (k0_h1 : k0_cond1 i = 1#1), ∀ a x, ((![v128] : Fin 1 → IVec S16 32) a x).toNat < S100000.size a)
theorem k0_idx42_inb : ∀ (i : grid0.Coords) (v128 : IVec S16 32) (k0_hw42 : k0_chk42 i v128), ∀ (k0_h1 : k0_cond1 i = 1#1), ∀ a x, ((![v128] : Fin 1 → IVec S16 32) a x).toNat < S100000.size a := fun i v128 k0_hw42 k0_h1 => k0_hw42 k0_h1

def k0_chk43 (i : grid0.Coords) (v131 : IVec S16 32) : Prop :=
  (∀ (k0_h1 : k0_cond1 i = 1#1), ∀ a x, ((![v131] : Fin 1 → IVec S16 32) a x).toNat < S100000.size a)
theorem k0_idx43_inb : ∀ (i : grid0.Coords) (v131 : IVec S16 32) (k0_hw43 : k0_chk43 i v131), ∀ (k0_h1 : k0_cond1 i = 1#1), ∀ a x, ((![v131] : Fin 1 → IVec S16 32) a x).toNat < S100000.size a := fun i v131 k0_hw43 k0_h1 => k0_hw43 k0_h1

def k0_chk44 (i : grid0.Coords) (v134 : IVec S16 32) : Prop :=
  (∀ (k0_h1 : k0_cond1 i = 1#1), ∀ a x, ((![v134] : Fin 1 → IVec S16 32) a x).toNat < S100000.size a)
theorem k0_idx44_inb : ∀ (i : grid0.Coords) (v134 : IVec S16 32) (k0_hw44 : k0_chk44 i v134), ∀ (k0_h1 : k0_cond1 i = 1#1), ∀ a x, ((![v134] : Fin 1 → IVec S16 32) a x).toNat < S100000.size a := fun i v134 k0_hw44 k0_h1 => k0_hw44 k0_h1

def k0_chk45 (i : grid0.Coords) (v137 : IVec S16 32) : Prop :=
  (∀ (k0_h1 : k0_cond1 i = 1#1), ∀ a x, ((![v137] : Fin 1 → IVec S16 32) a x).toNat < S100000.size a)
theorem k0_idx45_inb : ∀ (i : grid0.Coords) (v137 : IVec S16 32) (k0_hw45 : k0_chk45 i v137), ∀ (k0_h1 : k0_cond1 i = 1#1), ∀ a x, ((![v137] : Fin 1 → IVec S16 32) a x).toNat < S100000.size a := fun i v137 k0_hw45 k0_h1 => k0_hw45 k0_h1

def k0_chk46 (i : grid0.Coords) (v140 : IVec S16 32) : Prop :=
  (∀ (k0_h1 : k0_cond1 i = 1#1), ∀ a x, ((![v140] : Fin 1 → IVec S16 32) a x).toNat < S100000.size a)
theorem k0_idx46_inb : ∀ (i : grid0.Coords) (v140 : IVec S16 32) (k0_hw46 : k0_chk46 i v140), ∀ (k0_h1 : k0_cond1 i = 1#1), ∀ a x, ((![v140] : Fin 1 → IVec S16 32) a x).toNat < S100000.size a := fun i v140 k0_hw46 k0_h1 => k0_hw46 k0_h1

def k0_chk47 (i : grid0.Coords) (v143 : IVec S16 32) : Prop :=
  (∀ (k0_h1 : k0_cond1 i = 1#1), ∀ a x, ((![v143] : Fin 1 → IVec S16 32) a x).toNat < S100000.size a)
theorem k0_idx47_inb : ∀ (i : grid0.Coords) (v143 : IVec S16 32) (k0_hw47 : k0_chk47 i v143), ∀ (k0_h1 : k0_cond1 i = 1#1), ∀ a x, ((![v143] : Fin 1 → IVec S16 32) a x).toNat < S100000.size a := fun i v143 k0_hw47 k0_h1 => k0_hw47 k0_h1

def k0_chk48 (i : grid0.Coords) (v146 : IVec S16 32) : Prop :=
  (∀ (k0_h1 : k0_cond1 i = 1#1), ∀ a x, ((![v146] : Fin 1 → IVec S16 32) a x).toNat < S100000.size a)
theorem k0_idx48_inb : ∀ (i : grid0.Coords) (v146 : IVec S16 32) (k0_hw48 : k0_chk48 i v146), ∀ (k0_h1 : k0_cond1 i = 1#1), ∀ a x, ((![v146] : Fin 1 → IVec S16 32) a x).toNat < S100000.size a := fun i v146 k0_hw48 k0_h1 => k0_hw48 k0_h1

def k0_chk49 (i : grid0.Coords) (v149 : IVec S16 32) : Prop :=
  (∀ (k0_h1 : k0_cond1 i = 1#1), ∀ a x, ((![v149] : Fin 1 → IVec S16 32) a x).toNat < S100000.size a)
theorem k0_idx49_inb : ∀ (i : grid0.Coords) (v149 : IVec S16 32) (k0_hw49 : k0_chk49 i v149), ∀ (k0_h1 : k0_cond1 i = 1#1), ∀ a x, ((![v149] : Fin 1 → IVec S16 32) a x).toNat < S100000.size a := fun i v149 k0_hw49 k0_h1 => k0_hw49 k0_h1

def k0_chk50 (i : grid0.Coords) (v152 : IVec S16 32) : Prop :=
  (∀ (k0_h1 : k0_cond1 i = 1#1), ∀ a x, ((![v152] : Fin 1 → IVec S16 32) a x).toNat < S100000.size a)
theorem k0_idx50_inb : ∀ (i : grid0.Coords) (v152 : IVec S16 32) (k0_hw50 : k0_chk50 i v152), ∀ (k0_h1 : k0_cond1 i = 1#1), ∀ a x, ((![v152] : Fin 1 → IVec S16 32) a x).toNat < S100000.size a := fun i v152 k0_hw50 k0_h1 => k0_hw50 k0_h1

def k0_chk51 (i : grid0.Coords) (v155 : IVec S16 32) : Prop :=
  (∀ (k0_h1 : k0_cond1 i = 1#1), ∀ a x, ((![v155] : Fin 1 → IVec S16 32) a x).toNat < S100000.size a)
theorem k0_idx51_inb : ∀ (i : grid0.Coords) (v155 : IVec S16 32) (k0_hw51 : k0_chk51 i v155), ∀ (k0_h1 : k0_cond1 i = 1#1), ∀ a x, ((![v155] : Fin 1 → IVec S16 32) a x).toNat < S100000.size a := fun i v155 k0_hw51 k0_h1 => k0_hw51 k0_h1

def k0_chk52 (i : grid0.Coords) (v158 : IVec S16 32) : Prop :=
  (∀ (k0_h1 : k0_cond1 i = 1#1), ∀ a x, ((![v158] : Fin 1 → IVec S16 32) a x).toNat < S100000.size a)
theorem k0_idx52_inb : ∀ (i : grid0.Coords) (v158 : IVec S16 32) (k0_hw52 : k0_chk52 i v158), ∀ (k0_h1 : k0_cond1 i = 1#1), ∀ a x, ((![v158] : Fin 1 → IVec S16 32) a x).toNat < S100000.size a := fun i v158 k0_hw52 k0_h1 => k0_hw52 k0_h1

def k0_chk53 (i : grid0.Coords) (v161 : IVec S16 32) : Prop :=
  (∀ (k0_h1 : k0_cond1 i = 1#1), ∀ a x, ((![v161] : Fin 1 → IVec S16 32) a x).toNat < S100000.size a)
theorem k0_idx53_inb : ∀ (i : grid0.Coords) (v161 : IVec S16 32) (k0_hw53 : k0_chk53 i v161), ∀ (k0_h1 : k0_cond1 i = 1#1), ∀ a x, ((![v161] : Fin 1 → IVec S16 32) a x).toNat < S100000.size a := fun i v161 k0_hw53 k0_h1 => k0_hw53 k0_h1

def k0_chk54 (i : grid0.Coords) (v164 : IVec S16 32) : Prop :=
  (∀ (k0_h1 : k0_cond1 i = 1#1), ∀ a x, ((![v164] : Fin 1 → IVec S16 32) a x).toNat < S100000.size a)
theorem k0_idx54_inb : ∀ (i : grid0.Coords) (v164 : IVec S16 32) (k0_hw54 : k0_chk54 i v164), ∀ (k0_h1 : k0_cond1 i = 1#1), ∀ a x, ((![v164] : Fin 1 → IVec S16 32) a x).toNat < S100000.size a := fun i v164 k0_hw54 k0_h1 => k0_hw54 k0_h1

def k0_chk55 (i : grid0.Coords) (v167 : IVec S16 32) : Prop :=
  (∀ (k0_h1 : k0_cond1 i = 1#1), ∀ a x, ((![v167] : Fin 1 → IVec S16 32) a x).toNat < S100000.size a)
theorem k0_idx55_inb : ∀ (i : grid0.Coords) (v167 : IVec S16 32) (k0_hw55 : k0_chk55 i v167), ∀ (k0_h1 : k0_cond1 i = 1#1), ∀ a x, ((![v167] : Fin 1 → IVec S16 32) a x).toNat < S100000.size a := fun i v167 k0_hw55 k0_h1 => k0_hw55 k0_h1

def k0_chk56 (i : grid0.Coords) (v170 : IVec S16 32) : Prop :=
  (∀ (k0_h1 : k0_cond1 i = 1#1), ∀ a x, ((![v170] : Fin 1 → IVec S16 32) a x).toNat < S100000.size a)
theorem k0_idx56_inb : ∀ (i : grid0.Coords) (v170 : IVec S16 32) (k0_hw56 : k0_chk56 i v170), ∀ (k0_h1 : k0_cond1 i = 1#1), ∀ a x, ((![v170] : Fin 1 → IVec S16 32) a x).toNat < S100000.size a := fun i v170 k0_hw56 k0_h1 => k0_hw56 k0_h1

def k0_chk57 (i : grid0.Coords) (v173 : IVec S16 32) : Prop :=
  (∀ (k0_h1 : k0_cond1 i = 1#1), ∀ a x, ((![v173] : Fin 1 → IVec S16 32) a x).toNat < S100000.size a)
theorem k0_idx57_inb : ∀ (i : grid0.Coords) (v173 : IVec S16 32) (k0_hw57 : k0_chk57 i v173), ∀ (k0_h1 : k0_cond1 i = 1#1), ∀ a x, ((![v173] : Fin 1 → IVec S16 32) a x).toNat < S100000.size a := fun i v173 k0_hw57 k0_h1 => k0_hw57 k0_h1

def k0_chk58 (i : grid0.Coords) (v176 : IVec S16 32) : Prop :=
  (∀ (k0_h1 : k0_cond1 i = 1#1), ∀ a x, ((![v176] : Fin 1 → IVec S16 32) a x).toNat < S100000.size a)
theorem k0_idx58_inb : ∀ (i : grid0.Coords) (v176 : IVec S16 32) (k0_hw58 : k0_chk58 i v176), ∀ (k0_h1 : k0_cond1 i = 1#1), ∀ a x, ((![v176] : Fin 1 → IVec S16 32) a x).toNat < S100000.size a := fun i v176 k0_hw58 k0_h1 => k0_hw58 k0_h1

def k0_chk59 (i : grid0.Coords) (v179 : IVec S16 32) : Prop :=
  (∀ (k0_h1 : k0_cond1 i = 1#1), ∀ a x, ((![v179] : Fin 1 → IVec S16 32) a x).toNat < S100000.size a)
theorem k0_idx59_inb : ∀ (i : grid0.Coords) (v179 : IVec S16 32) (k0_hw59 : k0_chk59 i v179), ∀ (k0_h1 : k0_cond1 i = 1#1), ∀ a x, ((![v179] : Fin 1 → IVec S16 32) a x).toNat < S100000.size a := fun i v179 k0_hw59 k0_h1 => k0_hw59 k0_h1

def k0_chk60 (i : grid0.Coords) (v182 : IVec S16 32) : Prop :=
  (∀ (k0_h1 : k0_cond1 i = 1#1), ∀ a x, ((![v182] : Fin 1 → IVec S16 32) a x).toNat < S100000.size a)
theorem k0_idx60_inb : ∀ (i : grid0.Coords) (v182 : IVec S16 32) (k0_hw60 : k0_chk60 i v182), ∀ (k0_h1 : k0_cond1 i = 1#1), ∀ a x, ((![v182] : Fin 1 → IVec S16 32) a x).toNat < S100000.size a := fun i v182 k0_hw60 k0_h1 => k0_hw60 k0_h1

def k0_chk61 (i : grid0.Coords) (v185 : IVec S16 32) : Prop :=
  (∀ (k0_h1 : k0_cond1 i = 1#1), ∀ a x, ((![v185] : Fin 1 → IVec S16 32) a x).toNat < S100000.size a)
theorem k0_idx61_inb : ∀ (i : grid0.Coords) (v185 : IVec S16 32) (k0_hw61 : k0_chk61 i v185), ∀ (k0_h1 : k0_cond1 i = 1#1), ∀ a x, ((![v185] : Fin 1 → IVec S16 32) a x).toNat < S100000.size a := fun i v185 k0_hw61 k0_h1 => k0_hw61 k0_h1

def k0_chk62 (i : grid0.Coords) (v188 : IVec S16 32) : Prop :=
  (∀ (k0_h1 : k0_cond1 i = 1#1), ∀ a x, ((![v188] : Fin 1 → IVec S16 32) a x).toNat < S100000.size a)
theorem k0_idx62_inb : ∀ (i : grid0.Coords) (v188 : IVec S16 32) (k0_hw62 : k0_chk62 i v188), ∀ (k0_h1 : k0_cond1 i = 1#1), ∀ a x, ((![v188] : Fin 1 → IVec S16 32) a x).toNat < S100000.size a := fun i v188 k0_hw62 k0_h1 => k0_hw62 k0_h1

def k0_chk63 (i : grid0.Coords) (v191 : IVec S16 32) : Prop :=
  (∀ (k0_h1 : k0_cond1 i = 1#1), ∀ a x, ((![v191] : Fin 1 → IVec S16 32) a x).toNat < S100000.size a)
theorem k0_idx63_inb : ∀ (i : grid0.Coords) (v191 : IVec S16 32) (k0_hw63 : k0_chk63 i v191), ∀ (k0_h1 : k0_cond1 i = 1#1), ∀ a x, ((![v191] : Fin 1 → IVec S16 32) a x).toNat < S100000.size a := fun i v191 k0_hw63 k0_h1 => k0_hw63 k0_h1

def k0_chk64 (i : grid0.Coords) (v194 : IVec S16 32) : Prop :=
  (∀ (k0_h1 : k0_cond1 i = 1#1), ∀ a x, ((![v194] : Fin 1 → IVec S16 32) a x).toNat < S100000.size a)
theorem k0_idx64_inb : ∀ (i : grid0.Coords) (v194 : IVec S16 32) (k0_hw64 : k0_chk64 i v194), ∀ (k0_h1 : k0_cond1 i = 1#1), ∀ a x, ((![v194] : Fin 1 → IVec S16 32) a x).toNat < S100000.size a := fun i v194 k0_hw64 k0_h1 => k0_hw64 k0_h1
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_64_r2 : BitVec 32 := 0#32
  ![v1.toNat, 0]
abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 1 → Nat :=
  let arg0 : BitVec 32 := BitVec.ofNat 32 (i 0).val
  let c0_i32 : BitVec 32 := 0#32
  ![arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S16x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024 : Shape := ⟨1, ![1024]⟩
abbrev S100000x16 : Shape := ⟨2, ![100000, 16]⟩
abbrev S16x16 : Shape := ⟨2, ![16, 16]⟩
abbrev S16 : Shape := ⟨1, ![16]⟩
abbrev S16x100000 : Shape := ⟨2, ![16, 100000]⟩
abbrev S100000 : Shape := ⟨1, ![100000]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x16 : Shape := ⟨2, ![1024, 16]⟩
abbrev S1x16 : Shape := ⟨2, ![1, 16]⟩
abbrev S1024x100000 : Shape := ⟨2, ![1024, 100000]⟩
abbrev S1x100000 : Shape := ⟨2, ![1, 100000]⟩

abbrev nBuf : Space → Nat
  | .hbm => 40
  | .vmem => 0
  | .smem => 0
  | _ => 0

abbrev bufTy : (tb : Table) → Fin (tcTables nBuf tb) → BufTy
  | .hbm, ⟨0, _⟩ => ⟨S1024, .i32⟩
  | .hbm, ⟨1, _⟩ => ⟨S100000x16, .f32⟩
  | .hbm, ⟨2, _⟩ => ⟨S16x16, .f32⟩
  | .hbm, ⟨3, _⟩ => ⟨S16, .f32⟩
  | .hbm, ⟨4, _⟩ => ⟨S16x100000, .f32⟩
  | .hbm, ⟨5, _⟩ => ⟨S100000, .f32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1, .i32⟩
  | .hbm, ⟨15, _⟩ => ⟨S_, .i32⟩
  | .hbm, ⟨16, _⟩ => ⟨S1024x1, .i32⟩
  | .hbm, ⟨17, _⟩ => ⟨S1024x1, .i1⟩
  | .hbm, ⟨18, _⟩ => ⟨S1x1, .i32⟩
  | .hbm, ⟨19, _⟩ => ⟨S1024x1, .i32⟩
  | .hbm, ⟨20, _⟩ => ⟨S1024x1, .i1⟩
  | .hbm, ⟨21, _⟩ => ⟨S1024x1, .i1⟩
  | .hbm, ⟨22, _⟩ => ⟨S_, .i1⟩
  | .hbm, ⟨23, _⟩ => ⟨S1024, .i1⟩
  | .hbm, ⟨24, _⟩ => ⟨S1024x16, .f32⟩
  | .hbm, ⟨25, _⟩ => ⟨S1024x16, .i1⟩
  | .hbm, ⟨26, _⟩ => ⟨S_, .f32⟩
  | .hbm, ⟨27, _⟩ => ⟨S1024x16, .f32⟩
  | .hbm, ⟨28, _⟩ => ⟨S1024x16, .f32⟩
  | .hbm, ⟨29, _⟩ => ⟨S1024x16, .f32⟩
  | .hbm, ⟨30, _⟩ => ⟨S1x16, .f32⟩
  | .hbm, ⟨31, _⟩ => ⟨S1024x16, .f32⟩
  | .hbm, ⟨32, _⟩ => ⟨S1024x16, .f32⟩
  | .hbm, ⟨33, _⟩ => ⟨S_, .f32⟩
  | .hbm, ⟨34, _⟩ => ⟨S1024x16, .f32⟩
  | .hbm, ⟨35, _⟩ => ⟨S1024x16, .f32⟩
  | .hbm, ⟨36, _⟩ => ⟨S1024x100000, .f32⟩
  | .hbm, ⟨37, _⟩ => ⟨S1x100000, .f32⟩
  | .hbm, ⟨38, _⟩ => ⟨S1024x100000, .f32⟩
  | .hbm, ⟨39, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call1_cst : Ref sig .tc := ⟨.hbm, 33, rfl⟩
abbrev main_call1_v0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩

abbrev nD : Nat := 1
abbrev τ : Topo := Topo.v7x

variable {F : FTy → Type} [FloatOps F]
-- ==== Proof.Setup.lean ====
/-
  What the proof about the kernel's run is stated over: the launch theorem's configuration, the resource algebra (the
  handshakes' rounds, the tile kernel's DMA cells, the pipeline's cells), the arrays as locations, the VALUES the
  SparseCore call leaves (row `w` of the gathered array is row `w` of the transposed table read at the indices), the
  tiles' DMA cells with what each landing hands back, and what the call's handshakes carry.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Transfers
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Lookup

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch configuration -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes', the tile kernel's and the pipeline's cells -/

abbrev UH : Type := URounds (GSem nD τ sig) ℕ
abbrev UK : Type := URounds (GSem nD τ sig) Unit
abbrev UP : Type := URounds (GSem nD τ sig) Unit
abbrev UU : Type := UH × (UK × UP)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EK : Emb UK (MT nD τ sig (HIx 1) (Elt F) ℕ UU ℕ) :=
  ((Emb.inl : Emb UK (UK × UP)).trans (Emb.inr : Emb (UK × UP) UU)).trans
    (uEmb (nD := nD) (sig := sig) (Ix := HIx 1) (Val := Elt F) (Name := ℕ) (U := UU) (Lvl := ℕ)).toEmb
def EP : Emb UP (MT nD τ sig (HIx 1) (Elt F) ℕ UU ℕ) :=
  ((Emb.inr : Emb UP (UK × UP)).trans (Emb.inr : Emb (UK × UP) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EK_landsIn : (EK : Emb UK 𝕄).LandsIn (upEmb : UEmb _ 𝕄) := by unfold EK; infer_instance
instance EP_landsIn : (EP : Emb UP 𝕄).LandsIn (upEmb : UEmb _ 𝕄) := by unfold EP; infer_instance

/-! ## The arrays and the values -/

variable (m : (ℓ : Loc nD τ sig) → Buf (Elt F) ℓ) (ρ : Dev nD → PrngReg)

/-- The indices, the embedding table, the table transposed and the gathered array, as locations of device `d`. -/
abbrev xLoc (d : Dev nD) : Loc nD τ sig := (SparseCore.T d).loc main_arg0
abbrev eLoc (d : Dev nD) : Loc nD τ sig := (SparseCore.T d).loc main_arg1
abbrev tLoc (d : Dev nD) : Loc nD τ sig := (SparseCore.T d).loc main_v0
abbrev gLoc (d : Dev nD) : Loc nD τ sig := (SparseCore.T d).loc main_v1

/-- The table transposed: what `@main`'s first operation writes. -/
def tabC (d : Dev nD) : Vec F S16x100000 .f32 :=
  transpose S16x100000 [1, 0] (m (eLoc d) : Vec F S100000x16 .f32) transposes_S100000x16_S16x100000_1_0

/-- Index `j` of the lookup, as a lane of the table (the remainder makes it one whatever the word). -/
def lane (d : Dev nD) (j : Fin 1024) : Fin 100000 := ⟨(m (xLoc d) (ix1 j) : BitVec 32).toNat % 100000, Nat.mod_lt _ (by decide)⟩

/-- The gathered array: row `w` is the transposed table's row `w` read at the indices. -/
def gathC (d : Dev nD) : Vec F S16x1024 .f32 := fun p => tabC m d (ix2 (p 0) (lane m d (p 1)))

/-- Row `w` of the transposed table. -/
def rowC (d : Dev nD) (w : Fin 16) : Vec F S100000 .f32 := fun j => tabC m d (ix2 w (j 0))

/-- What the run asks of the launch memory: every index names a lane of the table. -/
def InRange : Prop := ∀ (d : Dev nD) (j : S1024.Idx), (m (xLoc d) j : BitVec 32).toNat < 100000

variable [FloatOps F]

abbrev tV : Memref sig .scVector .hbm S16x100000 .f32 := Memref.whole main_v0_scv
abbrev xV : Memref sig .scVector .hbm S1024 .i32 := Memref.whole main_arg0_scv
abbrev gV : Memref sig .scVector .hbm S16x1024 .f32 := Memref.whole main_v1_scv
/-- A tile's scratches: the table's row, the indices, the row it gathers. -/
abbrev sR : Memref sig .scVector .vmem S100000 .f32 := Memref.whole cc0_scratch0
abbrev sX : Memref sig .scVector .vmem S1024 .i32 := Memref.whole cc0_scratch1
abbrev sO : Memref sig .scVector .vmem S1024 .f32 := Memref.whole cc0_scratch2

theorem hdivT : 16 ∣ S16x100000.size 0 := ⟨1, rfl⟩
theorem hdivG : 16 ∣ S16x1024.size 0 := ⟨1, rfl⟩
abbrev tRow (w : Fin 16) : Rect S16x100000 := Rect.part (s := S16x100000) (a₀ := 0) hdivT w
abbrev gRow (w : Fin 16) : Rect S16x1024 := Rect.part (s := S16x1024) (a₀ := 0) hdivG w
abbrev tSet (w : Fin 16) : Finset S16x100000.Idx := ((tV : Memref sig .scVector .hbm S16x100000 .f32).view.slice (tRow w)).set
abbrev gSet (w : Fin 16) : Finset S16x1024.Idx := ((gV : Memref sig .scVector .hbm S16x1024 .f32).view.slice (gRow w)).set

/-- The row tile `i` of SparseCore `c` serves, `2 i + c` (the remainder makes it a row for the idle tiles too). -/
def rowOf (c : Fin τ.nSC) (i : Fin τ.nSub) : Fin 16 := ⟨(2 * i.val + c.val) % 16, Nat.mod_lt _ (by decide)⟩
/-- Tile `i` of SparseCore `c` has a row to serve. -/
def Active (c : Fin τ.nSC) (i : Fin τ.nSub) : Prop := 2 * i.val + c.val < 16
instance (c : Fin τ.nSC) (i : Fin τ.nSub) : Decidable (Active c i) := by unfold Active; infer_instance
/-- The share of the indices the tile serving row `w` reads. -/
abbrev xTok (w : Fin 16) : PosShare TreeShare := Transfers.shareTok fullShare 16 w

/-! ## The tile kernel's cells -/

abbrev cTcell (d : Dev nD) (c : Fin τ.nSC) (i : Fin τ.nSub) : GSem nD τ sig := (V d c i, .dma cc0_scoped0.sem)
abbrev cXcell (d : Dev nD) (c : Fin τ.nSC) (i : Fin τ.nSub) : GSem nD τ sig := (V d c i, .dma cc0_scoped1.sem)
abbrev cGcell (d : Dev nD) (c : Fin τ.nSC) (i : Fin τ.nSub) : GSem nD τ sig := (V d c i, .dma cc0_scoped2.sem)

abbrev NT : ℕ := (sR : Memref sig .scVector .vmem S100000 .f32).view.dmaCredit
abbrev NX : ℕ := (sX : Memref sig .scVector .vmem S1024 .i32).view.dmaCredit
abbrev NG : ℕ := sig.dmaCredit .scVector (Kind.scVector.table .hbm) (main_v1_scv : Ref sig .scVector).idx S1024 .f32
theorem NT_pos : 0 < NT := View.dmaCredit_pos _ (by decide)
theorem NX_pos : 0 < NX := View.dmaCredit_pos _ (by decide)
theorem NG_pos : 0 < NG := sig.dmaCredit_pos _ _ _ _ _ (by decide)

inductive CellKind | cT | cX | cG
  deriving DecidableEq

def cellKind (g : GSem nD τ sig) : Option CellKind :=
  match g with
  | ((_, .scVector _ _), sm) =>
      if sm = .dma cc0_scoped0.sem then some .cT else if sm = .dma cc0_scoped1.sem then some .cX
      else if sm = .dma cc0_scoped2.sem then some .cG else none
  | _ => none

@[simp] theorem cellKind_cT (d : Dev nD) (c : Fin τ.nSC) (i : Fin τ.nSub) : cellKind (cTcell d c i) = some .cT := by simp [cellKind]
@[simp] theorem cellKind_cX (d : Dev nD) (c : Fin τ.nSC) (i : Fin τ.nSub) : cellKind (cXcell d c i) = some .cX := by
  simp [cellKind, show (cc0_scoped1.sem : DmaSem sig) ≠ cc0_scoped0.sem from by decide]
@[simp] theorem cellKind_cG (d : Dev nD) (c : Fin τ.nSC) (i : Fin τ.nSub) : cellKind (cGcell d c i) = some .cG := by
  simp [cellKind, show (cc0_scoped2.sem : DmaSem sig) ≠ cc0_scoped0.sem from by decide, show (cc0_scoped2.sem : DmaSem sig) ≠ cc0_scoped1.sem from by decide]

/-- A tile's scratch as it holds its table row, the indices, any row. -/
abbrev rPts (d : Dev nD) (c : Fin τ.nSC) (i : Fin τ.nSub) : sProp 𝕄 := (V d c i).loc cc0_scratch0 ↦{fullShare} rowC m d (rowOf c i)
abbrev iPts (d : Dev nD) (c : Fin τ.nSC) (i : Fin τ.nSub) : sProp 𝕄 := (V d c i).loc cc0_scratch1 ↦{fullShare} m (xLoc d)
abbrev oPts (d : Dev nD) (c : Fin τ.nSC) (i : Fin τ.nSub) (f : Vec F S1024 .f32) : sProp 𝕄 := (V d c i).loc cc0_scratch2 ↦{fullShare} f
/-- Row `w` of the transposed table; the indices at the share of the tile serving row `w`; row `w` of the gathered array. -/
abbrev tRowPts (d : Dev nD) (w : Fin 16) : sProp 𝕄 := tLoc d ↦[tSet w]{fullShare} tabC m d
abbrev xTokPts (d : Dev nD) (w : Fin 16) : sProp 𝕄 := xLoc d ↦{xTok w} m (xLoc d)
abbrev gRowPts (d : Dev nD) (w : Fin 16) (f : Vec F S16x1024 .f32) : sProp 𝕄 := gLoc d ↦[gSet w]{fullShare} f

/-- What a landing hands back: the row fetch's, the row scratch at the tile's table row, and that row; the index fetch's,
    the index scratch at the indices, and the share of them; the write-out's, the tile's row of the gathered array at its
    value, and the out scratch. -/
def kPay (g : GSem nD τ sig) : sProp 𝕄 :=
  match g with
  | ((d, .scVector c i), sm) =>
      if sm = .dma cc0_scoped0.sem then iprop(rPts m d c i ∗ tRowPts m d (rowOf c i))
      else if sm = .dma cc0_scoped1.sem then iprop(iPts m d c i ∗ xTokPts m d (rowOf c i))
      else iprop(gRowPts d (rowOf c i) (gathC m d) ∗ ∃ f, oPts d c i f)
  | _ => iprop(emp)

def kRd : Rounds.Schedule (GSem nD τ sig) Unit 𝕄 where
  duties g r := if (cellKind g).isSome ∧ r = 0 then {()} else ∅
  amount g _ _ := match cellKind g with | some .cT => NT | some .cX => NX | _ => NG
  payload g _ _ := kPay m g
  amount_pos g _ _ _ := by
    rcases cellKind g with _ | ⟨_ | _ | _⟩
    · exact NG_pos
    · exact NT_pos
    · exact NX_pos
    · exact NG_pos

instance kRd_payload_storable (g : GSem nD τ sig) (r : ℕ) (u : Unit) : BI.Storable (upEmb : UEmb _ 𝕄) ((kRd (F := F) m).payload g r u) := by
  show BI.Storable upEmb (kPay m g)
  unfold kPay
  rcases g with ⟨⟨d, _ | c | ⟨c, i⟩⟩, sm⟩ <;> dsimp only <;> (repeat' split) <;> infer_instance

theorem kRd_duties₀ {g : GSem nD τ sig} (h : (cellKind g).isSome) : (kRd (F := F) m).duties g 0 = {()} := if_pos ⟨h, rfl⟩
theorem kRd_mem₀ {g : GSem nD τ sig} (h : (cellKind g).isSome) : () ∈ (kRd (F := F) m).duties g 0 := by
  rw [kRd_duties₀ m h]; exact Finset.mem_singleton_self _
theorem kRd_later (g : GSem nD τ sig) : ∀ r, 0 + 1 ≤ r → (kRd (F := F) m).duties g r = ∅ :=
  fun r hr => if_neg fun ⟨_, h⟩ => by omega
theorem kRd_back {g : GSem nD τ sig} (h : (cellKind g).isSome) :
    bigSep ((kRd (F := F) m).duties g 0 \ ∅) (fun u => (kRd (F := F) m).payload g 0 u) ⊢ (kRd (F := F) m).payload g 0 () := by
  rw [Finset.sdiff_empty, kRd_duties₀ m h, bigSep_singleton]
theorem kRd_expect {g : GSem nD τ sig} (h : (cellKind g).isSome) : (kRd (F := F) m).expect g 0 = (kRd (F := F) m).amount g 0 () := by
  unfold Rounds.Schedule.expect; rw [kRd_duties₀ m h]; exact Finset.sum_singleton _ _
theorem kRd_amount_cT (d : Dev nD) (c : Fin τ.nSC) (i : Fin τ.nSub) : (kRd (F := F) m).amount (cTcell d c i) 0 () = NT := by simp [kRd]
theorem kRd_amount_cX (d : Dev nD) (c : Fin τ.nSC) (i : Fin τ.nSub) : (kRd (F := F) m).amount (cXcell d c i) 0 () = NX := by simp [kRd]
theorem kRd_amount_cG (d : Dev nD) (c : Fin τ.nSC) (i : Fin τ.nSub) : (kRd (F := F) m).amount (cGcell d c i) 0 () = NG := by simp [kRd]
theorem kRd_payload_cT (d : Dev nD) (c : Fin τ.nSC) (i : Fin τ.nSub) :
    (kRd (F := F) m).payload (cTcell d c i) 0 () = iprop(rPts m d c i ∗ tRowPts m d (rowOf c i)) := by
  show kPay m (cTcell d c i) = _; unfold kPay; exact if_pos rfl
theorem kRd_payload_cX (d : Dev nD) (c : Fin τ.nSC) (i : Fin τ.nSub) :
    (kRd (F := F) m).payload (cXcell d c i) 0 () = iprop(iPts m d c i ∗ xTokPts m d (rowOf c i)) := by
  show kPay m (cXcell d c i) = _; unfold kPay; exact (if_neg (by decide)).trans (if_pos rfl)
theorem kRd_payload_cG (d : Dev nD) (c : Fin τ.nSC) (i : Fin τ.nSub) :
    (kRd (F := F) m).payload (cGcell d c i) 0 () = iprop(gRowPts d (rowOf c i) (gathC m d) ∗ ∃ f, oPts d c i f) := by
  show kPay m (cGcell d c i) = _; unfold kPay; exact (if_neg (by decide)).trans (if_neg (by decide))

def kit (g : GSem nD τ sig) : sProp 𝕄 :=
  iprop(roundState EK (kRd m) g 0 ∗ atPos EK g 0 ∅ 0 ∗ reached EK g 0 ∗ dutyTok EK g 0 ())

/-! ## What the handshakes carry -/

/-- What a tile is sent: if it has a row to serve, that row of the transposed table, its share of the indices, and that row
    of the gathered array at the contents `f`; otherwise nothing. -/
def taskPts (d : Dev nD) (c : Fin τ.nSC) (i : Fin τ.nSub) (f : Vec F S16x1024 .f32) : sProp 𝕄 :=
  if Active c i then iprop(tRowPts m d (rowOf c i) ∗ xTokPts m d (rowOf c i) ∗ gRowPts d (rowOf c i) f) else iprop(emp)

instance taskPts_storable (d : Dev nD) (c : Fin τ.nSC) (i : Fin τ.nSub) (f : Vec F S16x1024 .f32) :
    BI.Storable (upEmb : UEmb _ 𝕄) (taskPts m d c i f) := by
  unfold taskPts; split <;> infer_instance

/-- A tile of the call on a SparseCore of the call, as the machine's. -/
abbrev coreOf (c : Fin ((K (F := F)).nCore 0)) : Fin τ.nSC := (K (F := F)).core 0 c
abbrev subOf (i : Fin ((K (F := F)).nSub 0)) : Fin τ.nSub := (K (F := F)).sub 0 i

/-- The one call takes what its tiles are sent, the gathered array at its launch contents, and brings it back with the
    rows of the gathered array at their values. -/
def P : (K (F := F)).Pay (nD := nD) (Val := Elt F) (Name := ℕ) (U := UU) where
  st := fun q d c => match q with | 0 => bigSep Finset.univ fun i : Fin ((K (F := F)).nSub 0) => taskPts m d (coreOf (F := F) c) (subOf (F := F) i) (m (gLoc d))
  dn := fun q d c => match q with | 0 => bigSep Finset.univ fun i : Fin ((K (F := F)).nSub 0) => taskPts m d (coreOf (F := F) c) (subOf (F := F) i) (gathC m d)
  go := fun q d c i => match q with | 0 => taskPts m d (coreOf (F := F) c) (subOf (F := F) i) (m (gLoc d))
  td := fun q d c i => match q with | 0 => taskPts m d (coreOf (F := F) c) (subOf (F := F) i) (gathC m d)
  x := fun q thr => match q, thr with
    | 0, (d, .scVector c i) => iprop(kit m (cTcell d c i) ∗ kit m (cXcell d c i) ∗ kit m (cGcell d c i))
    | _, _ => iprop(emp)

instance P_storable : (P (F := F) m).IsStorable where
  st q d c := match q with
    | 0 => (inferInstance : BI.Storable (upEmb : UEmb _ 𝕄) (bigSep Finset.univ fun i : Fin ((K (F := F)).nSub 0) => taskPts m d (coreOf (F := F) c) (subOf (F := F) i) (m (gLoc d))))
  dn q d c := match q with
    | 0 => (inferInstance : BI.Storable (upEmb : UEmb _ 𝕄) (bigSep Finset.univ fun i : Fin ((K (F := F)).nSub 0) => taskPts m d (coreOf (F := F) c) (subOf (F := F) i) (gathC m d)))
  go q d c i := match q with
    | 0 => (inferInstance : BI.Storable (upEmb : UEmb _ 𝕄) (taskPts m d (coreOf (F := F) c) (subOf (F := F) i) (m (gLoc d))))
  td q d c i := match q with
    | 0 => (inferInstance : BI.Storable (upEmb : UEmb _ 𝕄) (taskPts m d (coreOf (F := F) c) (subOf (F := F) i) (gathC m d)))

end Cert.Proof.Lookup

end
-- ==== Proof.Dense.lean ====
/-
  The TensorCore kernel's body, run at one grid point over whole staging buffers: at the first point it writes the
  hidden layer (and a row of ones) to its first scratch buffer; at every point it stacks the point's block of the
  second weights and of the second biases in its other scratch buffer and writes the product of the two.
-/
module

public import proofs.«01_k».proof.Proof.Setup
public import Idealize.ShloMosaic.Lib.Pipeline.RegionsLoop
public import Idealize.ShloMosaic.Lib.Pipeline.DatRel
public import Idealize.ShloMosaic.Lib.Pipeline.Value
public import Idealize.ShloMosaic.Lib.VecWindow
public import Idealize.ShloMosaic.Lib.ValueLayout
public import Idealize.ShloMosaic.Lib.Pipeline.ArrRel

@[expose] public section

noncomputable section

namespace Cert.Proof.Lookup

open Cert.KernelIdeal Cert.KernelIdeal.Gen

open Idealize.ShloMosaic
open Idealize.ShloMosaic.TcCoe Idealize.ShloMosaic.Tactic
open Idealize.ShloMosaic.ValueIdx (ix1 ix2 eq_ix1 eq_ix2)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig (HIx 1) (Elt F) ℕ UU ℕ

/-- A memref's buffer on core `c`, whole, at contents `f`. -/
abbrev pt (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- A block of the second weights over a block of the second biases. -/
def stack (w : Vec F S16x2048 .f32) (b : Vec F S2048 .f32) : Vec F S17x2048 .f32 := fun p =>
  if h : (p 0).val < 16 then w (ix2 ⟨(p 0).val, h⟩ (p 1)) else b (ix1 (p 1))

/-- After a write through the whole rectangle a view reads what was written. -/
theorem read_full {κ : Kind} {sp : Space} {s : Shape} {e : EltTy} (v : View sig κ sp s e) (f : v.ty.Contents (Elt F))
    {off : Fin s.rank → ℕ} (inb : ∀ a, off a + s.size a ≤ s.size a) (w : s.Idx → Elt F e) :
    v.read (Elt F) (v.writes (Elt F) f [⟨Rect.unit off s.size inb, w⟩]) = w := by
  funext y
  refine View.read_writes_cons_hit_of_coords v f (Rect.unit off s.size inb) w [] y y fun a => ?_
  have := inb a
  show (y a).val = off a + 1 * (y a).val
  omega

/-- After the write of the first sixteen rows and then of the last a view reads the stack of the two. -/
theorem read_stack {κ : Kind} {sp : Space} (v : View sig κ sp S17x2048 .f32) (f : v.ty.Contents (Elt F))
    (w : Vec F S16x2048 .f32) (b : Vec F S2048 .f32) :
    v.read (Elt F) (v.writes (Elt F) f
        [⟨Rect.unit (s := S17x2048) ![16, 0] S1x2048.size inb_S17x2048_S1x2048_16_0, k1_pay3 b⟩,
         ⟨Rect.unit (s := S17x2048) ![0, 0] S16x2048.size inb_S17x2048_S16x2048_0_0, k1_pay2 w⟩]) = stack w b := by
  funext y
  have hy : (y 0).val < 17 := (y 0).isLt
  unfold stack
  by_cases h : (y 0).val < 16
  · rw [dif_pos h]
    rw [View.read_writes_cons_miss_of_axis v f _ _ y 0 16 1 rfl rfl rfl (.inl h)]
    rw [View.read_writes_cons_hit_of_coords v f _ _ [] (ix2 ⟨(y 0).val, h⟩ (y 1)) y fun a => by
      fin_cases a <;> simp [Rect.unit, ix2]]
    unfold k1_pay2
    exact congrFun (shapeCast_self w _) _
  · rw [dif_neg h]
    rw [View.read_writes_cons_hit_of_coords v f _ _ _ (ix2 (0 : Fin 1) (y 1)) y fun a => by
      fin_cases a
      · show (y 0).val = 16 + 1 * 0; omega
      · show (y 1).val = 0 + 1 * (y 1).val; omega]
    unfold k1_pay3
    exact ValueIdx.shapeCast_a_1a_apply b _ 0 (y 1)

/-- The body at the first point. -/
theorem first_run (c : Dev nD) (i : grid1.Coords) (hi : (i 0).val = 0)
    (M1 : Memref sig .tc .vmem S16x1024 .f32) (h1 : M1.IsWhole) (M2 : Memref sig .tc .vmem S16x16 .f32) (h2 : M2.IsWhole)
    (M3 : Memref sig .tc .vmem S16x1 .f32) (h3 : M3.IsWhole) (M4 : Memref sig .tc .vmem S16x2048 .f32) (h4 : M4.IsWhole)
    (M5 : Memref sig .tc .vmem S2048 .f32) (h5 : M5.IsWhole) (M6 : Memref sig .tc .vmem S2048x1024 .f32) (h6 : M6.IsWhole)
    (M7 : Memref sig .tc .vmem S17x1024 .f32) (h7 : M7.IsWhole) (M8 : Memref sig .tc .vmem S17x2048 .f32) (h8 : M8.IsWhole)
    (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ)))
    (f5 : Buf (Elt F) (M5.view.loc (c : Thread nD τ))) (f6 : Buf (Elt F) (M6.view.loc (c : Thread nD τ)))
    (f7 : Buf (Elt F) (M7.view.loc (c : Thread nD τ))) (f8 : Buf (Elt F) (M8.view.loc (c : Thread nD τ)))
    (Q : PUnit → sProp 𝕄) :
    iprop(pt c M1 f1 ∗ pt c M2 f2 ∗ pt c M3 f3 ∗ pt c M4 f4 ∗ pt c M5 f5 ∗ pt c M6 f6 ∗ pt c M7 f7 ∗ pt c M8 f8
        ∗ (∀ g6 g7 g8, ⌜M7.view.read (Elt F) g7 = k1_pay1 (M2.view.read (Elt F) f2) (M1.view.read (Elt F) f1) (M3.view.read (Elt F) f3)
              ∧ M6.view.read (Elt F) g6 = k1_pay4 (stack (M4.view.read (Elt F) f4) (M5.view.read (Elt F) f5)) (M7.view.read (Elt F) g7)⌝
            -∗ (pt c M1 f1 ∗ pt c M2 f2 ∗ pt c M3 f3 ∗ pt c M4 f4 ∗ pt c M5 f5 ∗ pt c M6 g6 ∗ pt c M7 g7 ∗ pt c M8 g8) -∗ Q ⟨⟩))
      ⊢ wp frame (wpE (defs₀ (F := F)) 𝒱₀ c none) Set.univ (cc1__mlp_body i M1 h1 M2 h2 M3 h3 M4 h4 M5 h5 M6 h6 M7 h7 M8 h8) Q := by
  simp only [cc1__mlp_body_eq_skeleton]; unfold cc1__mlp_body_skel
  rw [dif_pos (by rw [hi]; decide)]
  iintro ⟨H1, H2, H3, H4, H5, H6, H7, H8, Hk⟩
  sl_exec!
  sl_step
  iapply Hk
  rotate_left
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  ipureintro
  delta first_run.sl.H6_1 first_run.sl.H7_1 first_run.sl.v11 first_run.sl.v12 first_run.sl.H7_1 first_run.sl.H8_2 View.readCov
  rw [View.readAt_full M1.view, View.readAt_full M2.view, View.readAt_full M3.view, View.readAt_full M4.view,
    View.readAt_full M5.view, View.readAt_full M7.view, View.readAt_full M8.view, read_full, read_full, read_stack]
  exact ⟨rfl, rfl⟩

/-- The body's test of the point fails past the first. -/
theorem later_cond (i : grid1.Coords) (hi : (i 0).val ≠ 0) :
    ¬ Scalar.cmpi .ne (Scalar.extui (Scalar.cmpi .eq (BitVec.ofNat 32 (i 0).val) 0#32) : BitVec 32) 0#32 = 1#1 := by
  have hall : ∀ n : Fin 49, n.val ≠ 0 →
      ¬ Scalar.cmpi .ne (Scalar.extui (Scalar.cmpi .eq (BitVec.ofNat 32 n.val) 0#32) : BitVec 32) 0#32 = 1#1 := by decide
  exact hall (i 0) hi

/-- The body at a later point, the hidden layer standing in the first scratch buffer. -/
theorem rest_run (c : Dev nD) (i : grid1.Coords) (hi : (i 0).val ≠ 0)
    (M1 : Memref sig .tc .vmem S16x1024 .f32) (h1 : M1.IsWhole) (M2 : Memref sig .tc .vmem S16x16 .f32) (h2 : M2.IsWhole)
    (M3 : Memref sig .tc .vmem S16x1 .f32) (h3 : M3.IsWhole) (M4 : Memref sig .tc .vmem S16x2048 .f32) (h4 : M4.IsWhole)
    (M5 : Memref sig .tc .vmem S2048 .f32) (h5 : M5.IsWhole) (M6 : Memref sig .tc .vmem S2048x1024 .f32) (h6 : M6.IsWhole)
    (M7 : Memref sig .tc .vmem S17x1024 .f32) (h7 : M7.IsWhole) (M8 : Memref sig .tc .vmem S17x2048 .f32) (h8 : M8.IsWhole)
    (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ)))
    (f5 : Buf (Elt F) (M5.view.loc (c : Thread nD τ))) (f6 : Buf (Elt F) (M6.view.loc (c : Thread nD τ)))
    (f7 : Buf (Elt F) (M7.view.loc (c : Thread nD τ))) (f8 : Buf (Elt F) (M8.view.loc (c : Thread nD τ)))
    (Q : PUnit → sProp 𝕄) :
    iprop(pt c M1 f1 ∗ pt c M2 f2 ∗ pt c M3 f3 ∗ pt c M4 f4 ∗ pt c M5 f5 ∗ pt c M6 f6 ∗ pt c M7 f7 ∗ pt c M8 f8
        ∗ (∀ g6 g8, ⌜M6.view.read (Elt F) g6 = k1_pay4 (stack (M4.view.read (Elt F) f4) (M5.view.read (Elt F) f5)) (M7.view.read (Elt F) f7)⌝
            -∗ (pt c M1 f1 ∗ pt c M2 f2 ∗ pt c M3 f3 ∗ pt c M4 f4 ∗ pt c M5 f5 ∗ pt c M6 g6 ∗ pt c M7 f7 ∗ pt c M8 g8) -∗ Q ⟨⟩))
      ⊢ wp frame (wpE (defs₀ (F := F)) 𝒱₀ c none) Set.univ (cc1__mlp_body i M1 h1 M2 h2 M3 h3 M4 h4 M5 h5 M6 h6 M7 h7 M8 h8) Q := by
  simp only [cc1__mlp_body_eq_skeleton]; unfold cc1__mlp_body_skel
  rw [dif_neg (later_cond i hi)]
  iintro ⟨H1, H2, H3, H4, H5, H6, H7, H8, Hk⟩
  sl_exec!
  sl_step
  iapply Hk
  rotate_left
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  ipureintro
  delta rest_run.sl.H6_1 rest_run.sl.v11 rest_run.sl.H8_2 View.readCov
  rw [View.readAt_full M4.view, View.readAt_full M5.view, View.readAt_full M7.view, View.readAt_full M8.view, read_full, read_stack]

/-- A whole memref owned at `X` is its buffer whole at contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

/-- The body at any point: the operands' buffers as found, the result's at the product of the stacked blocks with the
    hidden layer, which then stands in the first scratch buffer. -/
theorem body_run (c : Dev nD) (i : grid1.Coords)
    (M1 : Memref sig .tc .vmem S16x1024 .f32) (h1 : M1.IsWhole) (M2 : Memref sig .tc .vmem S16x16 .f32) (h2 : M2.IsWhole)
    (M3 : Memref sig .tc .vmem S16x1 .f32) (h3 : M3.IsWhole) (M4 : Memref sig .tc .vmem S16x2048 .f32) (h4 : M4.IsWhole)
    (M5 : Memref sig .tc .vmem S2048 .f32) (h5 : M5.IsWhole) (M6 : Memref sig .tc .vmem S2048x1024 .f32) (h6 : M6.IsWhole)
    (M7 : Memref sig .tc .vmem S17x1024 .f32) (h7 : M7.IsWhole) (M8 : Memref sig .tc .vmem S17x2048 .f32) (h8 : M8.IsWhole)
    (X1 : Vec F S16x1024 .f32) (X2 : Vec F S16x16 .f32) (X3 : Vec F S16x1 .f32) (X4 : Vec F S16x2048 .f32) (X5 : Vec F S2048 .f32) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ (∃ X6, owns (c : Thread nD τ) M6 fullShare X6)
        ∗ (∃ f, ⌜(i 0).val ≠ 0 → M7.view.read (Elt F) f = k1_pay1 X2 X1 X3⌝ ∗ pt c M7 f) ∗ (∃ f, pt c M8 f))
      ⊢ wp frame (wpE (defs₀ (F := F)) 𝒱₀ c none) Set.univ (cc1__mlp_body i M1 h1 M2 h2 M3 h3 M4 h4 M5 h5 M6 h6 M7 h7 M8 h8)
          fun _ => iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5
        ∗ owns (c : Thread nD τ) M6 fullShare (k1_pay4 (stack X4 X5) (k1_pay1 X2 X1 X3))
        ∗ (∃ f, ⌜M7.view.read (Elt F) f = k1_pay1 X2 X1 X3⌝ ∗ pt c M7 f) ∗ (∃ f, pt c M8 f)) := by
  simp only [owns_pt c _ h1, owns_pt c _ h2, owns_pt c _ h3, owns_pt c _ h4, owns_pt c _ h5, owns_pt c _ h6]
  iintro ⟨⟨%f1, %e1, H1⟩, ⟨%f2, %e2, H2⟩, ⟨%f3, %e3, H3⟩, ⟨%f4, %e4, H4⟩, ⟨%f5, %e5, H5⟩, ⟨%X6, %f6, -, H6⟩, ⟨%f7, %e7, H7⟩, ⟨%f8, H8⟩⟩
  subst e1 e2 e3 e4 e5
  by_cases hi : (i 0).val = 0
  · iapply (first_run c i hi M1 h1 M2 h2 M3 h3 M4 h4 M5 h5 M6 h6 M7 h7 M8 h8 f1 f2 f3 f4 f5 f6 f7 f8 _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro %g6 %g7 %g8 %hg ⟨H1, H2, H3, H4, H5, H6, H7, H8⟩
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists g6; isplitr; · ipureintro; rw [hg.2, hg.1]
                    iexact H6
    isplitl [H7]; · iexists g7; isplitr; · ipureintro; exact hg.1
                    iexact H7
    iexists g8; iexact H8
  · iapply (rest_run c i hi M1 h1 M2 h2 M3 h3 M4 h4 M5 h5 M6 h6 M7 h7 M8 h8 f1 f2 f3 f4 f5 f6 f7 f8 _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro %g6 %g8 %hg ⟨H1, H2, H3, H4, H5, H6, H7, H8⟩
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists g6; isplitr; · ipureintro; rw [hg, e7 hi]
                    iexact H6
    isplitl [H7]; · iexists f7; isplitr; · ipureintro; exact e7 hi
                    iexact H7
    iexists g8; iexact H8

end Cert.Proof.Lookup

end
-- ==== Proof.Region.lean ====
/-
  The TensorCore kernel's region: its proof data at the arrays the region finds, the body's obligation at every grid
  point (the result's window held to a relation: what the body leaves there is the product of the stacked blocks, the
  last block's overhang being whatever the fetch left there), and the region over the arrays and the core's dues.
-/
module

public import proofs.«01_k».proof.Proof.Dense
public import Idealize.ShloMosaic.Lib.Pipeline.ValueKit.Geometry

@[expose] public section

noncomputable section

namespace Cert.Proof.Lookup

open Cert.KernelIdeal Cert.KernelIdeal.Gen

open Idealize.ShloMosaic
open Idealize.ShloMosaic.TcCoe Idealize.ShloMosaic.Tactic
open Idealize.ShloMosaic.ValueIdx (ix1 ix2 eq_ix1 eq_ix2)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig (HIx 1) (Elt F) ℕ UU ℕ

variable (m : (ℓ : Loc nD τ sig) → Buf (Elt F) ℓ)

/-- The first biases as a column: what `@main`'s reshape writes. -/
def biasC (c : Dev nD) : Vec F S16x1 .f32 :=
  shapeCast S16x1 (m ((SparseCore.T c).loc main_arg3) : Vec F S16 .f32) shapeCasts_S16_S16x1

/-- The hidden layer over a row of ones. -/
def hidC (c : Dev nD) : Vec F S17x1024 .f32 :=
  k1_pay1 (m ((SparseCore.T c).loc main_arg2) : Vec F S16x16 .f32) (gathC m c) (biasC m c)

/-- What the region finds in each window's array. -/
def arrC (c : Dev nD) : (w : Fin cfg1.W) → Buf (Elt F) ((cfg1.win w).arr.view.loc (c : Thread nD τ))
  | ⟨0, _⟩ => gathC m c
  | ⟨1, _⟩ => m ((SparseCore.T c).loc main_arg2)
  | ⟨2, _⟩ => biasC m c
  | ⟨3, _⟩ => m ((SparseCore.T c).loc main_arg4)
  | ⟨4, _⟩ => m ((SparseCore.T c).loc main_arg5)
  | ⟨5, _⟩ => m ((SparseCore.T c).loc main_v3)
  | ⟨_ + 6, h⟩ => absurd h (Nat.not_lt.2 (Nat.le_add_left _ _))

/-- What a fetch of window `w` at point `t` leaves in a staging buffer that held `d`. -/
def blkC (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (((cfg1.win w).blk t).view.read (Elt F) (arrC m c w))

/-- The two scratch buffers between points: past the first point the first holds the hidden layer. -/
def scrC (c : Dev nD) (t : Fin (cfg1.N + 1)) : sProp 𝕄 :=
  iprop((∃ f : Buf (Elt F) ((c : Thread nD τ).loc cc1_scratch0), ⌜t.val ≠ 0 → f = hidC m c⌝ ∗ ((c : Thread nD τ).loc cc1_scratch0) ↦{fullShare} f)
    ∗ (∃ f : Buf (Elt F) ((c : Thread nD τ).loc cc1_scratch1), ((c : Thread nD τ).loc cc1_scratch1) ↦{fullShare} f))

/-- The region's proof data: every operand's staging buffer left as fetched, nothing owed. -/
def dat (c : Dev nD) : Dat τ (Elt F) (HIx 1) ℕ UU ℕ cfg1 c where
  A := arrC m c
  after w t := blkC m c w t fun _ => Classical.arbitrary _
  Φ t := scrC m c t
  q _ := fullShare
  owed _ := 0
  recorded _ := {p | (K (F := F)).lev (SparseCore.T c, p.1) p.2 ≤ 8}

/-- The window that is held to a relation: the result's. -/
abbrev isRes : Fin cfg1.W → Bool := fun w => decide (w = 5)

/-- What the body leaves in the result's window: the product of the stacked blocks with the hidden layer. -/
def Res (c : Dev nD) (w : Fin cfg1.W) (t : Fin cfg1.N) (X : (cfg1.win w).block.Idx → Elt F (cfg1.win w).elt) : Prop :=
  ∀ h : w = 5, ∃ d3 d4, (h ▸ X : (cfg1.win 5).block.Idx → Elt F (cfg1.win 5).elt) = k1_pay4 (stack (blkC m c 3 t d3) (blkC m c 4 t d4)) (hidC m c)

theorem blkC_0 (c : Dev nD) (t d) : blkC m c 0 t d = gathC m c := by
  have e : ∀ t : Fin cfg1.N, win1_0.index t = ![0, 0] := fun _ => rfl
  funext y
  show (((cfg1.win 0).blk t).view.read (Elt F) (gathC m c)) y = _
  blk_simp
  congr 1; funext a; refine Fin.ext ?_
  fin_cases a <;> blk_simp [e]

theorem blkC_1 (c : Dev nD) (t d) : blkC m c 1 t d = m ((SparseCore.T c).loc main_arg2) := by
  have e : ∀ t : Fin cfg1.N, win1_1.index t = ![0, 0] := fun _ => rfl
  funext y
  show (((cfg1.win 1).blk t).view.read (Elt F) (m ((SparseCore.T c).loc main_arg2))) y = _
  blk_simp
  congr 1; funext a; refine Fin.ext ?_
  fin_cases a <;> blk_simp [e]

theorem blkC_2 (c : Dev nD) (t d) : blkC m c 2 t d = biasC m c := by
  have e : ∀ t : Fin cfg1.N, win1_2.index t = ![0, 0] := fun _ => rfl
  funext y
  show (((cfg1.win 2).blk t).view.read (Elt F) (biasC m c)) y = _
  blk_simp
  congr 1; funext a; refine Fin.ext ?_
  fin_cases a <;> blk_simp [e]

/-- An operand's window holds, when the body runs, what a fetch at the point leaves there. -/
theorem before_eq (c : Dev nD) (w : Fin cfg1.W) (hw : w ≠ 5) (t d) : (dat m c).before w t d = blkC m c w t d := by
  have hall : ∀ w : Fin cfg1.W, w ≠ 5 → (cfg1.win w).isOut = false := by decide
  have hclip : ∀ (w : Fin cfg1.W) (t t' : Fin cfg1.N), (cfg1.win w).index t = (cfg1.win w).index t' →
      (cfg1.win w).clip (cfg1.grid.coords t) = (cfg1.win w).clip (cfg1.grid.coords t') := by
    intro w t t' h
    fin_cases w
    · rfl
    · rfl
    · rfl
    · exact funext fun a => congrArg (fun f : Fin 2 → Nat => Pipeline.Clip.of (f a) (S16x2048.size a) (S16x100000.size a)) h
    · exact funext fun a => congrArg (fun f : Fin 1 → Nat => Pipeline.Clip.of (f a) (S2048.size a) (S100000.size a)) h
    · exact funext fun a => congrArg (fun f : Fin 2 → Nat => Pipeline.Clip.of (f a) (S2048x1024.size a) (S100000x1024.size a)) h
  exact (dat m c).before_in_eq_fetched w (hall w hw) (fun _ => rfl) (hclip w) (fun t => (cfg1.win w).cut_fill _ _ _) t d

theorem coords_val (t : Fin cfg1.N) : ((cfg1.grid.coords t) 0).val = t.val :=
  (by decide +kernel : ∀ t : Fin grid1.N, ((grid1.coords t) 0).val = t.val) t

/-- The body's obligation at every grid point. -/
theorem body_obl (c : Dev nD) : BodyObligationRel (dat m c) (defs₀ (F := F)) 𝒱₀ none Set.univ isRes (Res m c) := fun t => by
  rw [bigSep_W1, bigSep_W1]
  show iprop(scrC m c t.castSucc ∗ (dat m c).owesAt none t.castSucc
      ∗ (∃ d, owns (c : Thread nD τ) (st1_0 t) fullShare ((dat m c).before 0 t d))
      ∗ (∃ d, owns (c : Thread nD τ) (st1_1 t) fullShare ((dat m c).before 1 t d))
      ∗ (∃ d, owns (c : Thread nD τ) (st1_2 t) fullShare ((dat m c).before 2 t d))
      ∗ (∃ d, owns (c : Thread nD τ) (st1_3 t) fullShare ((dat m c).before 3 t d))
      ∗ (∃ d, owns (c : Thread nD τ) (st1_4 t) fullShare ((dat m c).before 4 t d))
      ∗ (∃ Y, ⌜((dat m c).toRRel isRes (Res m c)).Finds 5 t Y⌝ ∗ owns (c : Thread nD τ) (st1_5 t) fullShare Y))
    ⊢ wp frame (wpE (defs₀ (F := F)) 𝒱₀ c none) Set.univ (bodyAt1 t) fun _ =>
      iprop(scrC m c t.succ ∗ (dat m c).owesAt none t.castSucc
      ∗ owns (c : Thread nD τ) (st1_0 t) fullShare (blkC m c 0 t fun _ => Classical.arbitrary _)
      ∗ owns (c : Thread nD τ) (st1_1 t) fullShare (blkC m c 1 t fun _ => Classical.arbitrary _)
      ∗ owns (c : Thread nD τ) (st1_2 t) fullShare (blkC m c 2 t fun _ => Classical.arbitrary _)
      ∗ (∃ d, owns (c : Thread nD τ) (st1_3 t) fullShare ((cfg1.win 3).fill (cfg1.grid.coords t) d ((cfg1.win 3).cut (cfg1.grid.coords t) ((dat m c).after 3 t))))
      ∗ (∃ d, owns (c : Thread nD τ) (st1_4 t) fullShare ((cfg1.win 4).fill (cfg1.grid.coords t) d ((cfg1.win 4).cut (cfg1.grid.coords t) ((dat m c).after 4 t))))
      ∗ (∃ X, ⌜Res m c 5 t X⌝ ∗ owns (c : Thread nD τ) (st1_5 t) fullShare X))
  have e3 : ∀ d, (cfg1.win 3).fill (cfg1.grid.coords t) d ((cfg1.win 3).cut (cfg1.grid.coords t) ((dat m c).after 3 t)) = blkC m c 3 t d :=
    fun d => congrArg _ ((cfg1.win 3).cut_fill _ _ _)
  have e4 : ∀ d, (cfg1.win 4).fill (cfg1.grid.coords t) d ((cfg1.win 4).cut (cfg1.grid.coords t) ((dat m c).after 4 t)) = blkC m c 4 t d :=
    fun d => congrArg _ ((cfg1.win 4).cut_fill _ _ _)
  simp only [e3, e4, before_eq m c 0 (by decide), before_eq m c 1 (by decide), before_eq m c 2 (by decide), before_eq m c 3 (by decide),
    before_eq m c 4 (by decide), blkC_0, blkC_1, blkC_2]
  unfold scrC
  iintro ⟨⟨⟨%f7, %e7, H7⟩, H8⟩, HO, ⟨%d0, H0⟩, ⟨%d1, H1⟩, ⟨%d2, H2⟩, ⟨%d3, H3⟩, ⟨%d4, H4⟩, ⟨%Y, -, H5⟩⟩
  ihave Hw := (body_run c (grid1.coords t) _ (hstage1_0 ((cfg1.slots t 0).cast nbuf1_0)) _ (hstage1_1 ((cfg1.slots t 1).cast nbuf1_1))
    _ (hstage1_2 ((cfg1.slots t 2).cast nbuf1_2)) _ (hstage1_3 ((cfg1.slots t 3).cast nbuf1_3)) _ (hstage1_4 ((cfg1.slots t 4).cast nbuf1_4))
    _ (hstage1_5 ((cfg1.slots t 5).cast nbuf1_5)) (Memref.whole cc1_scratch0) (Memref.isWhole_whole _) (Memref.whole cc1_scratch1) (Memref.isWhole_whole _)
    (gathC m c) (m ((SparseCore.T c).loc main_arg2)) (biasC m c) (blkC m c 3 t d3) (blkC m c 4 t d4)) $$ [H0 H1 H2 H3 H4 H5 H7 H8]
  · isplitl [H0]; · iexact H0
    isplitl [H1]; · iexact H1
    isplitl [H2]; · iexact H2
    isplitl [H3]; · iexact H3
    isplitl [H4]; · iexact H4
    isplitl [H5]; · iexists Y; iexact H5
    isplitl [H7]
    · iexists f7; isplitr
      · ipureintro; intro hi; exact e7 fun h0 => hi ((coords_val t).trans h0)
      iexact H7
    iexact H8
  iapply (wp_wand frame _ _) $$ Hw
  iintro %v ⟨H0, H1, H2, H3, H4, H5, ⟨%g7, %eg, H7⟩, H8⟩
  isplitl [H7 H8]
  · isplitl [H7]
    · iexists g7; isplitr
      · ipureintro; intro _; exact eg
      iexact H7
    iexact H8
  isplitl [HO]; · iexact HO
  isplitl [H0]; · iexact H0
  isplitl [H1]; · iexact H1
  isplitl [H2]; · iexact H2
  isplitl [H3]; · iexists d3; iexact H3
  isplitl [H4]; · iexists d4; iexact H4
  iexists _; isplitr; swap; · iexact H5
  ipureintro
  exact fun _ => ⟨d3, d4, rfl⟩

/-! ## The region -/

/-- The pipelines have no prefetched tables. -/
abbrev adm : (p : Fin 1) → (pcfgs (F := F) p).Adm := fun p => (cfgs p).toPCfg_adm

/-- The region's proof data as relations: the result's window held to `Res`. -/
abbrev rdat (c : Dev nD) : RDat τ (Elt F) (HIx 1) ℕ UU ℕ cfg1 c := (dat m c).toRRel isRes (Res m c)

def rdats : (p : Fin 1) → (c : Dev nD) → RDat τ (Elt F) (HIx 1) ℕ UU ℕ (Pipeline.pin (pcfgs (F := F)) adm p) c
  | ⟨0, _⟩ => fun c => rdat m c
  | ⟨_ + 1, h⟩ => absurd h (Nat.not_lt.2 (Nat.le_add_left _ _))

/-- What device `c`'s TensorCore owes after the SparseCore call: nothing, its waits recorded at the call's levels. -/
def dues (c : Dev nD) : sProp 𝕄 :=
  iprop(∃ W, ⌜(K (F := F)).WBelow (SparseCore.T c) W 8⌝ ∗ owes (SparseCore.T c) (0 : CellTallies nD τ sig (HIx 1)) W)

/-- The operands' arrays, whole, as the region finds and leaves them. -/
def operands (c : Dev nD) : sProp 𝕄 :=
  iprop((gLoc c ↦{fullShare} gathC m c) ∗ ((SparseCore.T c).loc main_arg2 ↦{fullShare} m ((SparseCore.T c).loc main_arg2))
    ∗ ((SparseCore.T c).loc main_v2 ↦{fullShare} (biasC m c : Buf (Elt F) ((SparseCore.T c).loc main_v2)))
    ∗ ((SparseCore.T c).loc main_arg4 ↦{fullShare} m ((SparseCore.T c).loc main_arg4))
    ∗ ((SparseCore.T c).loc main_arg5 ↦{fullShare} m ((SparseCore.T c).loc main_arg5)))

/-- The result's array, at something the region's write-backs may leave. -/
def result (c : Dev nD) : sProp 𝕄 :=
  iprop(∃ G : Buf (Elt F) ((SparseCore.T c).loc main_v3), ⌜(rdat m c).ArrAt 5 cfg1.N G⌝ ∗ ((SparseCore.T c).loc main_v3 ↦{fullShare} G))

set_option backward.isDefEq.respectTransparency.types false in
/-- The region over the arrays and the core's dues. -/
def reg : RDat.RegionSeg (pcfgs (F := F)) adm (rdats m) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obl m c).toRRel
  hwaits := RDat.hwaits_of_owed_zero _ _ _ _ _ _ 0 fun _ _ => rfl
  pre c := iprop(operands m c ∗ ((SparseCore.T c).loc main_v3 ↦{fullShare} m ((SparseCore.T c).loc main_v3)) ∗ dues c)
  post c := iprop(operands m c ∗ result m c ∗ dues c)
  X _ := BI.emp
  Y _ := BI.emp
  Z _ := BI.emp
  hentry c := by
    rw [Pipeline.ownSems0_none, Pipeline.RDat.arrays_eq pcfgs adm (rdats m) 0 c launch1.arr_whole ((dat m c).share_full fun _ => rfl)]
    rw [bigSep_W1]
    unfold operands dues
    iintro ⟨⟨⟨H0, H1, H2, H3, H4⟩, H5, %W, %hW, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun p hp => Or.inl (hW p hp)
      iexact HO
    isplitr <;> iempintro
  hin c := by
    rw [show (rdats m 0 c).Φ 0 = scrC m c 0 from rfl]
    unfold scrC
    iintro ⟨-, -, Hr⟩
    ihave H := (Entails.of_eq (scopedRest1_eq (Ix := HIx 1) (Val := Elt F) (Name := ℕ) (U := UU) (Lvl := ℕ) c)) $$ Hr
    icases H with ⟨⟨%f, H7⟩, H8⟩
    isplitl [H7]
    · iexists f; isplitr; · ipureintro; exact fun h => absurd rfl h
      iexact H7
    iexact H8
  hout c := by
    rw [Pipeline.ownSems0_none, show (rdats m 0 c).Φ (Fin.last _) = scrC m c (Fin.last _) from rfl]
    unfold scrC
    iintro ⟨⟨%f, -, H7⟩, H8⟩
    isplitr; · iempintro
    isplitr; · iempintro
    iapply (Entails.of_eq (scopedRest1_eq (Ix := HIx 1) (Val := Elt F) (Name := ℕ) (U := UU) (Lvl := ℕ) c).symm)
    isplitl [H7]; · iexists f; iexact H7
    iexact H8
  hexit c := by
    rw [Pipeline.RDat.arraysAt_eq pcfgs adm (rdats m) 0 c launch1.arr_whole ((dat m c).share_full fun _ => rfl)]
    rw [bigSep_W1]
    unfold operands result dues
    iintro ⟨⟨⟨%G0, %h0, H0⟩, ⟨%G1, %h1, H1⟩, ⟨%G2, %h2, H2⟩, ⟨%G3, %h3, H3⟩, ⟨%G4, %h4, H4⟩, ⟨%G5, %h5, H5⟩⟩, HO, -, -⟩
    rw [show (rdats m 0 c).ArrAt 0 _ = fun G => G = arrC m c 0 from (rdat m c).ArrAt_in 0 rfl _] at h0
    rw [show (rdats m 0 c).ArrAt 1 _ = fun G => G = arrC m c 1 from (rdat m c).ArrAt_in 1 rfl _] at h1
    rw [show (rdats m 0 c).ArrAt 2 _ = fun G => G = arrC m c 2 from (rdat m c).ArrAt_in 2 rfl _] at h2
    rw [show (rdats m 0 c).ArrAt 3 _ = fun G => G = arrC m c 3 from (rdat m c).ArrAt_in 3 rfl _] at h3
    rw [show (rdats m 0 c).ArrAt 4 _ = fun G => G = arrC m c 4 from (rdat m c).ArrAt_in 4 rfl _] at h4
    subst h0 h1 h2 h3 h4
    imodintro
    isplitl [H0 H1 H2 H3 H4]
    · isplitl [H0]; · iexact H0
      isplitl [H1]; · iexact H1
      isplitl [H2]; · iexact H2
      isplitl [H3]; · iexact H3
      iexact H4
    isplitl [H5]
    · iexists G5; isplitr; · ipureintro; exact h5
      iexact H5
    unfold Pipeline.RDat.owesAt Pipeline.owesWithin
    icases HO with ⟨%W, %hW, HO⟩
    iexists W; isplitr
    · ipureintro
      intro p hp
      rcases hW hp with h | ⟨w, s, rfl⟩
      · exact h
      · exact Nat.zero_le _
    iexact HO

end Cert.Proof.Lookup

end
-- ==== Proof.Chunk.lean ====
/-
  The steps of one chunk of the tile kernel, at a symbolic (SparseCore, tile) pair and a symbolic offset: sixteen indices
  loaded, the table row read at them, the sixteen values stored. The result scratch's first `n` words are the gathered
  row's (`Done`): the fact the chunks carry forward.
-/
module

public import proofs.«01_k».proof.Proof.Setup

@[expose] public section

noncomputable section

namespace Cert.Proof.Lookup

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig (HIx 1) (Elt F) ℕ UU ℕ

variable (d : Dev nD) (c : Fin τ.nSC) (i : Fin τ.nSub)

/-- Sixteen words from offset `o` of a scratch of 1024. -/
abbrev rC (o : ℕ) (h : ∀ a, (![o] : Fin 1 → ℕ) a + S16.size a ≤ S1024.size a) : Rect S1024 := Rect.unit (s := S1024) ![o] S16.size h

/-- Word `j` of the sixteen from offset `o`. -/
def at16 (o : ℕ) (h : ∀ a, (![o] : Fin 1 → ℕ) a + S16.size a ≤ S1024.size a) (j : S16.Idx) : Fin 1024 :=
  ⟨o + (j 0).val, by have h0 : o + 16 ≤ 1024 := h 0; have hj : (j 0).val < 16 := (j 0).isLt; omega⟩

/-- The sixteen indices from offset `o`, -/
def idxC (o : ℕ) (h : ∀ a, (![o] : Fin 1 → ℕ) a + S16.size a ≤ S1024.size a) : Vec F S16 .i32 :=
  fun j => (m (xLoc d) (ix1 (at16 o h j)))
/-- and the sixteen values of row `w` of the gathered array. -/
def valC (w : Fin 16) (o : ℕ) (h : ∀ a, (![o] : Fin 1 → ℕ) a + S16.size a ≤ S1024.size a) : Vec F S16 .f32 :=
  fun j => gathC m d (ix2 w (at16 o h j))

/-- The first `n` words of `f` are row `w` of the gathered array. -/
def Done (w : Fin 16) (n : ℕ) (f : Vec F S1024 .f32) : Prop := ∀ j : Fin 1024, j.val < n → f (ix1 j) = gathC m d (ix2 w j)

/-- A tile between chunks: its table row, the indices, and the result scratch with `n` words done. -/
def Inv (n : ℕ) : sProp 𝕄 :=
  iprop(rPts m d c i ∗ iPts m d c i ∗ ∃ f, ⌜Done m d (rowOf c i) n f⌝ ∗ oPts d c i f)

theorem rC_emb (o : ℕ) (h) (j : S16.Idx) : (rC o h).emb j = ix1 (at16 o h j) := by
  funext a
  match a with
  | 0 =>
    apply Fin.ext
    show o + 1 * (j 0).val = o + (j 0).val
    omega

/-- The load of sixteen indices reads them. -/
theorem read_idx (o : ℕ) (h) :
    (sX : Memref sig .scVector .vmem S1024 .i32).view.readAt (Elt F) (rC o h).toLoadRect (m (xLoc d)) = idxC m d o h := by
  funext j
  simp only [View.readAt_apply, Memref.view_whole, View.read_whole]
  show m (xLoc d) ((rC o h).emb j) = _
  rw [rC_emb]; rfl

/-- The sixteen indices are lanes of the table: the check the kernel makes of them. -/
theorem idxC_lt (hx : InRange m) (o : ℕ) (h) :
    ∀ a x, ((![idxC m d o h] : Fin 1 → IVec S16 32) a x).toNat < S100000.size a := by
  intro a x
  obtain rfl : a = 0 := Subsingleton.elim _ _
  exact hx d _

/-- The table row read at sixteen indices is sixteen values of the gathered row. -/
theorem gather_eq (hx : InRange m) (w : Fin 16) (o : ℕ) (h) (hl : ∀ a x, ((![idxC m d o h] : Fin 1 → IVec S16 32) a x).toNat < S100000.size a) :
    loadIdx (F := F) (s := S100000) (((sR : Memref sig .scVector .vmem S100000 .f32).access (.whole S100000)).read (Elt F) (rowC m d w)) ![idxC m d o h] hl
      = valC m d w o h := by
  funext j
  have e : ((sR : Memref sig .scVector .vmem S100000 .f32).access (.whole S100000)).read (Elt F) (rowC m d w) = rowC m d w :=
    Memref.read_access_whole _ cc0_scratch0 _
  rw [e]
  show rowC m d w (idxAt ![idxC m d o h] hl j) = _
  unfold rowC valC gathC
  congr 2
  apply Fin.ext
  show (idxC m d o h j : BitVec 32).toNat = (m (xLoc d) (ix1 (at16 o h j)) : BitVec 32).toNat % 100000
  rw [Nat.mod_eq_of_lt (hx d _)]; rfl

/-- Sixteen more words stored: `n` words done become `n + 16`. -/
theorem done_store (w : Fin 16) (o : ℕ) (h) (f : Vec F S1024 .f32) (hf : Done m d w o f) :
    Done m d w (o + 16) (((sO : Memref sig .scVector .vmem S1024 .f32).access (rC o h)).write (Elt F) f (valC m d w o h) Finset.univ) := by
  intro j hj
  by_cases hjo : j.val < o
  · rw [View.write_of_not_mem]
    · exact hf j hjo
    · intro hm
      rw [View.setOn_univ] at hm
      obtain ⟨x, -, hx⟩ := Finset.mem_map.mp hm
      have e : o + (x 0).val = j.val := congrArg (fun y : S1024.Idx => (y 0).val) ((rC_emb o h x).symm.trans hx)
      omega
  · have ho : o + 16 ≤ 1024 := h 0
    have e : ix1 j = (rC o h).emb (ix1 ⟨j.val - o, by omega⟩ : S16.Idx) := by
      rw [rC_emb]; congr 1; apply Fin.ext; show j.val = o + (j.val - o); omega
    have e2 := View.write_emb_of_mem (v := (sO : Memref sig .scVector .vmem S1024 .f32).access (rC o h)) (Val := Elt F) f (valC m d w o h)
      (Finset.mem_univ (ix1 ⟨j.val - o, by omega⟩ : S16.Idx))
    refine (congrArg _ e).trans (e2.trans ?_)
    simp only [cast_eq]
    unfold valC
    congr 2
    apply Fin.ext; show o + (j.val - o) = j.val; omega

section Steps

variable {Λ : Labels} {defs : Defs nD τ sig (Elt F) Λ} (𝒲 : Variants) {α : Type}

/-- Sixteen indices loaded. -/
theorem step_idx (n o : ℕ) (h) {hl : (sX : Memref sig .scVector .vmem S1024 .i32).view.LoadsAt (rC o h).toLoadRect}
    {k : Vec F S16 .i32 → Prog (TpuEff nD τ sig (Elt F) Λ₀ (.scVector c i)) α} {Q : α → sProp 𝕄} :
    Inv m d c i n ⊢ iprop((Inv m d c i n -∗ wp frame (wpE (defs₀ (F := F)) 𝒱₀ (V d c i) none) Set.univ (k (idxC m d o h)) Q)
      -∗ wp frame (wpE (defs₀ (F := F)) 𝒱₀ (V d c i) none) Set.univ (.op (.load sX (rC o h).toLoadRect hl) k) Q) := by
  unfold Inv
  iintro ⟨Hr, Hx, Ho⟩ Hk
  iapply (wp_load 𝒱₀ (V d c i) none Set.univ (m := (sX : Memref sig .scVector .vmem S1024 .i32)) (S := Finset.univ) (Finset.subset_univ _)) $$ Hx
  iintro Hx
  rw [read_idx m d o h]
  iapply Hk
  isplitl [Hr]; · iexact Hr
  isplitl [Hx]; · iexact Hx
  iexact Ho

/-- The table row read at sixteen indices. -/
theorem step_gather (hx : InRange m) (n o : ℕ) (h) {hi : ∀ a x, ((![idxC m d o h] : Fin 1 → IVec S16 32) a x).toNat < S100000.size a}
    {hl : (sR : Memref sig .scVector .vmem S100000 .f32).view.Loads}
    {k : Vec F S16 .f32 → Prog (TpuEff nD τ sig (Elt F) Λ₀ (.scVector c i)) α} {Q : α → sProp 𝕄} :
    Inv m d c i n ⊢ iprop((Inv m d c i n -∗ wp frame (wpE (defs₀ (F := F)) 𝒱₀ (V d c i) none) Set.univ (k (valC m d (rowOf c i) o h)) Q)
      -∗ wp frame (wpE (defs₀ (F := F)) 𝒱₀ (V d c i) none) Set.univ (SparseCore.vectorLoadIdx sR ![idxC m d o h] hi hl >>= k) Q) := by
  unfold Inv
  iintro ⟨Hr, Hx, Ho⟩ Hk
  iapply (SparseCore.wp_vectorLoadIdx 𝒱₀ (V d c i) none Set.univ (base := (sR : Memref sig .scVector .vmem S100000 .f32)) (S := Finset.univ) (q := fullShare) (Finset.subset_univ _)) $$ Hr
  iintro Hr
  rw [gather_eq m d hx (rowOf c i) o h hi]
  iapply Hk
  isplitl [Hr]; · iexact Hr
  isplitl [Hx]; · iexact Hx
  iexact Ho

/-- The same read, as the last thing a part does. -/
theorem step_gather_last (hx : InRange m) (n o : ℕ) (h) {hi : ∀ a x, ((![idxC m d o h] : Fin 1 → IVec S16 32) a x).toNat < S100000.size a}
    {hl : (sR : Memref sig .scVector .vmem S100000 .f32).view.Loads} {Q : Vec F S16 .f32 → sProp 𝕄} :
    Inv m d c i n ⊢ iprop((Inv m d c i n -∗ wp frame (wpE (defs₀ (F := F)) 𝒱₀ (V d c i) none) Set.univ (.ret (valC m d (rowOf c i) o h)) Q)
      -∗ wp frame (wpE (defs₀ (F := F)) 𝒱₀ (V d c i) none) Set.univ (SparseCore.vectorLoadIdx sR ![idxC m d o h] hi hl) Q) := by
  have e := step_gather m d c i hx n o h (hi := hi) (hl := hl) (k := pure) (Q := Q)
  rwa [Prog.bind_pure] at e

/-- The sixteen words about to be overwritten are loaded; nothing reads what is loaded. -/
theorem step_dead (n o : ℕ) (h) {hl : (sO : Memref sig .scVector .vmem S1024 .f32).view.LoadsAt (rC o h).toLoadRect}
    {p : Prog (TpuEff nD τ sig (Elt F) Λ₀ (.scVector c i)) α} {Q : α → sProp 𝕄} :
    Inv m d c i n ⊢ iprop((Inv m d c i n -∗ wp frame (wpE (defs₀ (F := F)) 𝒱₀ (V d c i) none) Set.univ p Q)
      -∗ wp frame (wpE (defs₀ (F := F)) 𝒱₀ (V d c i) none) Set.univ (.op (.load sO (rC o h).toLoadRect hl) fun _ => p) Q) := by
  unfold Inv
  iintro ⟨Hr, Hx, %f, %hf, Ho⟩ Hk
  iapply (wp_load 𝒱₀ (V d c i) none Set.univ (m := (sO : Memref sig .scVector .vmem S1024 .f32)) (S := Finset.univ) (Finset.subset_univ _)) $$ Ho
  iintro Ho
  iapply Hk
  isplitl [Hr]; · iexact Hr
  isplitl [Hx]; · iexact Hx
  iexists f; isplitr; · ipureintro; exact hf
  iexact Ho

/-- Sixteen values stored. -/
theorem step_store (o : ℕ) (h) {hs : ((sO : Memref sig .scVector .vmem S1024 .f32).access (rC o h)).Stores Finset.univ}
    {hm : (Finset.univ : Finset (rC o h).shape.Idx) = Finset.univ ∨ ∀ a, (rC o h).stride a = 1}
    {k : PUnit → Prog (TpuEff nD τ sig (Elt F) Λ₀ (.scVector c i)) α} {Q : α → sProp 𝕄} :
    Inv m d c i o ⊢ iprop((Inv m d c i (o + 16) -∗ wp frame (wpE (defs₀ (F := F)) 𝒱₀ (V d c i) none) Set.univ (k ⟨⟩) Q)
      -∗ wp frame (wpE (defs₀ (F := F)) 𝒱₀ (V d c i) none) Set.univ (.op (.store sO (rC o h) (valC m d (rowOf c i) o h) Finset.univ hs hm) k) Q) := by
  unfold Inv
  iintro ⟨Hr, Hx, %f, %hf, Ho⟩ Hk
  iapply (wp_store 𝒱₀ (V d c i) none Set.univ (m := (sO : Memref sig .scVector .vmem S1024 .f32)) (r := rC o h) (Mk := Finset.univ) (S := Finset.univ) (Finset.subset_univ _)) $$ Ho
  iintro Ho
  iapply Hk
  isplitl [Hr]; · iexact Hr
  isplitl [Hx]; · iexact Hx
  iexists _; isplitr; · ipureintro; exact done_store m d (rowOf c i) o h f hf
  iexact Ho

end Steps

end Cert.Proof.Lookup

end
-- ==== Proof.Parts.lean ====
/-
  The tile kernel's parts between its transfers, each run from `n` words done to more: the chunk's steps applied in turn.
-/
module

public import proofs.«01_k».proof.Proof.Chunk

@[expose] public section

noncomputable section

namespace Cert.Proof.Lookup

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig (HIx 1) (Elt F) ℕ UU ℕ

variable (d : Dev nD) (L : grid0.Coords)

abbrev cV (L : grid0.Coords) : Fin τ.nSC := (L 0).castLE hcore0
abbrev jV (L : grid0.Coords) : Fin τ.nSub := (L 1).castLE hsub0

/-- From 96 words done and the indices at 96 in hand, to 224 done and the values for 224 in hand. -/
theorem part2_run (hx : InRange m) (hh : k0_cond1 L = 1#1) :
    Inv m d (cV L) (jV L) 96
      ⊢ wp frame (wpE (defs₀ (F := F)) 𝒱₀ (V d (cV L) (jV L)) none) Set.univ
          (k0_part2 L tV (Memref.isWhole_whole _) xV (Memref.isWhole_whole _) gV (Memref.isWhole_whole _)
            sR (Memref.isWhole_whole _) sX (Memref.isWhole_whole _) sO (Memref.isWhole_whole _) cc0_scoped0 cc0_scoped1 cc0_scoped2 hh (idxC m d 96 inb_S1024_S16_96))
          fun v => iprop(⌜v = valC m d (rowOf (cV L) (jV L)) 224 inb_S1024_S16_224⌝ ∗ Inv m d (cV L) (jV L) 224) := by
  simp only [k0_part2_eq_skeleton]; unfold k0_part2_skel
  simp only [Prog.lift, Prog.bind_op, Prog.bind_ret, Prog.pure_eq_ret]
  iintro HI
  rw [wp_assume_of]; case h => exact fun _ => idxC_lt m d hx _ _
  iapply (step_gather m d _ _ hx) $$ HI; iintro HI
  iapply (step_dead m d _ _) $$ HI; iintro HI
  iapply (step_store m d _ _) $$ HI; iintro HI
  iterate 7
    iapply (step_idx m d _ _) $$ HI; iintro HI
    rw [wp_assume_of]; case h => exact fun _ => idxC_lt m d hx _ _
    iapply (step_gather m d _ _ hx) $$ HI; iintro HI
    iapply (step_dead m d _ _) $$ HI; iintro HI
    iapply (step_store m d _ _) $$ HI; iintro HI
  iapply (step_idx m d _ _) $$ HI; iintro HI
  rw [wp_assume_of]; case h => exact fun _ => idxC_lt m d hx _ _
  iapply (step_gather m d _ _ hx) $$ HI; iintro HI
  iapply (step_dead m d _ _) $$ HI; iintro HI
  rw [wp_ret]; imodintro
  isplitr; · ipureintro; rfl
  iexact HI

/-- From 224 words done and the values for 224 in hand, to 368 done and the indices at 368 in hand. -/
theorem part3_run (hx : InRange m) (hh : k0_cond1 L = 1#1) :
    Inv m d (cV L) (jV L) 224
      ⊢ wp frame (wpE (defs₀ (F := F)) 𝒱₀ (V d (cV L) (jV L)) none) Set.univ
          (k0_part3 L tV (Memref.isWhole_whole _) xV (Memref.isWhole_whole _) gV (Memref.isWhole_whole _)
            sR (Memref.isWhole_whole _) sX (Memref.isWhole_whole _) sO (Memref.isWhole_whole _) cc0_scoped0 cc0_scoped1 cc0_scoped2 hh (valC m d (rowOf (cV L) (jV L)) 224 inb_S1024_S16_224))
          fun v => iprop(⌜v.1 = idxC m d 368 inb_S1024_S16_368⌝ ∗ Inv m d (cV L) (jV L) 368) := by
  simp only [k0_part3_eq_skeleton]; unfold k0_part3_skel
  simp only [Prog.lift, Prog.bind_op, Prog.bind_ret, Prog.pure_eq_ret]
  iintro HI
  iapply (step_store m d _ _) $$ HI; iintro HI
  iterate 8
    iapply (step_idx m d _ _) $$ HI; iintro HI
    rw [wp_assume_of]; case h => exact fun _ => idxC_lt m d hx _ _
    iapply (step_gather m d _ _ hx) $$ HI; iintro HI
    iapply (step_dead m d _ _) $$ HI; iintro HI
    iapply (step_store m d _ _) $$ HI; iintro HI
  iapply (step_idx m d _ _) $$ HI; iintro HI
  rw [wp_assume_of]; case h => exact fun _ => idxC_lt m d hx _ _
  rw [wp_ret]; imodintro
  isplitr; · ipureintro; rfl
  iexact HI

/-- From 368 words done and the indices at 368 in hand, to 512 done. -/
theorem part4_run (hx : InRange m) (hh : k0_cond1 L = 1#1) :
    Inv m d (cV L) (jV L) 368
      ⊢ wp frame (wpE (defs₀ (F := F)) 𝒱₀ (V d (cV L) (jV L)) none) Set.univ
          (k0_part4 L tV (Memref.isWhole_whole _) xV (Memref.isWhole_whole _) gV (Memref.isWhole_whole _)
            sR (Memref.isWhole_whole _) sX (Memref.isWhole_whole _) sO (Memref.isWhole_whole _) cc0_scoped0 cc0_scoped1 cc0_scoped2 hh (idxC m d 368 inb_S1024_S16_368) (fun _ => idxC_lt m d hx _ _))
          fun _ => Inv m d (cV L) (jV L) 512 := by
  simp only [k0_part4_eq_skeleton]; unfold k0_part4_skel
  simp only [Prog.lift, Prog.bind_op, Prog.bind_ret, Prog.pure_eq_ret]
  iintro HI
  iapply (step_gather m d _ _ hx) $$ HI; iintro HI
  iapply (step_dead m d _ _) $$ HI; iintro HI
  iapply (step_store m d _ _) $$ HI; iintro HI
  iterate 8
    iapply (step_idx m d _ _) $$ HI; iintro HI
    rw [wp_assume_of]; case h => exact fun _ => idxC_lt m d hx _ _
    iapply (step_gather m d _ _ hx) $$ HI; iintro HI
    iapply (step_dead m d _ _) $$ HI; iintro HI
    iapply (step_store m d _ _) $$ HI; iintro HI
  rw [wp_ret]; imodintro
  iexact HI

/-- From 512 words done to 640, and the values for 640 in hand. -/
theorem part5_run (hx : InRange m) (hh : k0_cond1 L = 1#1) :
    Inv m d (cV L) (jV L) 512
      ⊢ wp frame (wpE (defs₀ (F := F)) 𝒱₀ (V d (cV L) (jV L)) none) Set.univ
          (k0_part5 L tV (Memref.isWhole_whole _) xV (Memref.isWhole_whole _) gV (Memref.isWhole_whole _)
            sR (Memref.isWhole_whole _) sX (Memref.isWhole_whole _) sO (Memref.isWhole_whole _) cc0_scoped0 cc0_scoped1 cc0_scoped2 hh)
          fun v => iprop(⌜v = valC m d (rowOf (cV L) (jV L)) 640 inb_S1024_S16_640⌝ ∗ Inv m d (cV L) (jV L) 640) := by
  simp only [k0_part5_eq_skeleton]; unfold k0_part5_skel
  simp only [Prog.lift, Prog.bind_op, Prog.bind_ret, Prog.pure_eq_ret]
  iintro HI
  iterate 8
    iapply (step_idx m d _ _) $$ HI; iintro HI
    rw [wp_assume_of]; case h => exact fun _ => idxC_lt m d hx _ _
    iapply (step_gather m d _ _ hx) $$ HI; iintro HI
    iapply (step_dead m d _ _) $$ HI; iintro HI
    iapply (step_store m d _ _) $$ HI; iintro HI
  iapply (step_idx m d _ _) $$ HI; iintro HI
  rw [wp_assume_of]; case h => exact fun _ => idxC_lt m d hx _ _
  iapply (step_gather_last m d _ _ hx) $$ HI; iintro HI
  rw [wp_ret]; imodintro
  isplitr; · ipureintro; rfl
  iexact HI

/-- From 640 words done and the values for 640 in hand, to 784 done. -/
theorem part6_run (hx : InRange m) (hh : k0_cond1 L = 1#1) :
    Inv m d (cV L) (jV L) 640
      ⊢ wp frame (wpE (defs₀ (F := F)) 𝒱₀ (V d (cV L) (jV L)) none) Set.univ
          (k0_part6 L tV (Memref.isWhole_whole _) xV (Memref.isWhole_whole _) gV (Memref.isWhole_whole _)
            sR (Memref.isWhole_whole _) sX (Memref.isWhole_whole _) sO (Memref.isWhole_whole _) cc0_scoped0 cc0_scoped1 cc0_scoped2 hh (valC m d (rowOf (cV L) (jV L)) 640 inb_S1024_S16_640))
          fun _ => Inv m d (cV L) (jV L) 784 := by
  simp only [k0_part6_eq_skeleton]; unfold k0_part6_skel
  simp only [Prog.lift, Prog.bind_op, Prog.bind_ret, Prog.pure_eq_ret]
  iintro HI
  iapply (step_dead m d _ _) $$ HI; iintro HI
  iapply (step_store m d _ _) $$ HI; iintro HI
  iterate 8
    iapply (step_idx m d _ _) $$ HI; iintro HI
    rw [wp_assume_of]; case h => exact fun _ => idxC_lt m d hx _ _
    iapply (step_gather m d _ _ hx) $$ HI; iintro HI
    iapply (step_dead m d _ _) $$ HI; iintro HI
    iapply (step_store m d _ _) $$ HI; iintro HI
  rw [wp_ret]; imodintro
  iexact HI

/-- From 784 words done to 912, and the values for 912 in hand. -/
theorem part7_run (hx : InRange m) (hh : k0_cond1 L = 1#1) :
    Inv m d (cV L) (jV L) 784
      ⊢ wp frame (wpE (defs₀ (F := F)) 𝒱₀ (V d (cV L) (jV L)) none) Set.univ
          (k0_part7 L tV (Memref.isWhole_whole _) xV (Memref.isWhole_whole _) gV (Memref.isWhole_whole _)
            sR (Memref.isWhole_whole _) sX (Memref.isWhole_whole _) sO (Memref.isWhole_whole _) cc0_scoped0 cc0_scoped1 cc0_scoped2 hh)
          fun v => iprop(⌜v = valC m d (rowOf (cV L) (jV L)) 912 inb_S1024_S16_912⌝ ∗ Inv m d (cV L) (jV L) 912) := by
  simp only [k0_part7_eq_skeleton]; unfold k0_part7_skel
  simp only [Prog.lift, Prog.bind_op, Prog.bind_ret, Prog.pure_eq_ret]
  iintro HI
  iterate 8
    iapply (step_idx m d _ _) $$ HI; iintro HI
    rw [wp_assume_of]; case h => exact fun _ => idxC_lt m d hx _ _
    iapply (step_gather m d _ _ hx) $$ HI; iintro HI
    iapply (step_dead m d _ _) $$ HI; iintro HI
    iapply (step_store m d _ _) $$ HI; iintro HI
  iapply (step_idx m d _ _) $$ HI; iintro HI
  rw [wp_assume_of]; case h => exact fun _ => idxC_lt m d hx _ _
  iapply (step_gather m d _ _ hx) $$ HI; iintro HI
  rw [wp_ret]; imodintro
  isplitr; · ipureintro; rfl
  iexact HI

end Cert.Proof.Lookup

end
-- ==== Proof.Tile.lean ====
/-
  One tile's task: the copies in and out, the parts between them, and the whole.
-/
module

public import proofs.«01_k».proof.Proof.Parts

@[expose] public section

noncomputable section

namespace Cert.Proof.Lookup

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig (HIx 1) (Elt F) ℕ UU ℕ

variable (d : Dev nD) (L : grid0.Coords)

/-! ## One copy -/

/-- A copy under way: its cell's invariant, the credit its landing will pay, and the owner's place in the first round. -/
def InFlight (g : GSem nD τ sig) (N : ℕ) : sProp 𝕄 :=
  iprop(∃ κ, cellInv EK (kRd m) κ g ∗ cred (tallyAt g (none : HIx 1) N) ∗ atPos EK g 0 ∅ 0)

section Copy

variable {c : Fin τ.nSC} {i : Fin τ.nSub} {α : Type}

/-- A copy starts: the source and the target are handed over with the cell's kit, for the landing to hand back. -/
theorem copy_start {sp sp' : Space} {s : Shape} {e : EltTy} {src : Memref sig .scVector sp s e} {dst : Memref sig .scVector sp' s e}
    {sem : DmaSem sig} {hsrc : src.view.WordExact} {hdst : dst.view.WordExact}
    {hsem : DmaTarget.Typed (nD := nD) sp (SemLoc.dma sem) (DmaTarget.here (p := .scVector c i) dst)}
    {k : PUnit → Prog (TpuEff nD τ sig (Elt F) Λ₀ (.scVector c i)) α} {Q : α → sProp 𝕄} {q : PosShare TreeShare}
    {fs : Buf (Elt F) (src.view.loc (V d c i))} {fd : Buf (Elt F) (dst.view.loc (V d c i))}
    (hg : (cellKind ((V d c i, .dma sem) : GSem nD τ sig)).isSome)
    (hN : (kRd (F := F) m).amount (V d c i, .dma sem) 0 () = dst.view.dmaCredit)
    (hpay : iprop((dst.view.loc (V d c i) ↦[dst.view.set]{fullShare} (dst.view.write (Elt F) fd (src.view.read (Elt F) fs) Finset.univ))
        ∗ (src.view.loc (V d c i) ↦[src.view.set]{q} fs)) ⊢ kPay m (V d c i, .dma sem)) :
    iprop(kit m (V d c i, .dma sem) ∗ semVal (V d c i, .dma sem) 0 ∗ (src.view.loc (V d c i) ↦[src.view.set]{q} fs)
        ∗ (dst.view.loc (V d c i) ↦[dst.view.set]{fullShare} fd))
      ⊢ iprop((InFlight m (V d c i, .dma sem) dst.view.dmaCredit -∗ wp frame (wpE (defs₀ (F := F)) 𝒱₀ (V d c i) none) Set.univ (k ⟨⟩) Q)
          -∗ wp frame (wpE (defs₀ (F := F)) 𝒱₀ (V d c i) none) Set.univ (.op (.enqueueDma src (.here dst) (.dma sem) hsrc hdst hsem) k) Q) := by
  unfold kit InFlight
  iintro ⟨⟨Hst, Hat, #Hr, Htok⟩, Hsem, Hs, Hd⟩ Hk
  imod ((Rounds.body_intro EK (kRd m) (V d c i, .dma sem)).trans inv_alloc) $$ [Hsem Hst] with ⟨%κ, #Hinv⟩
  · isplitl [Hsem] <;> iassumption
  iapply (Rounds.wp_copy_pointsTo 𝒱₀ EK (kRd m) (V d c i) none (q := q) (fs := fs) (fd := fd) (κ := κ)
      (kRd_mem₀ m hg) none dst.view.dmaCredit rfl hN hpay) $$ [Hs Hd Htok]
  · isplitr; · iexact Hinv
    isplitl [Hs]; · iexact Hs
    isplitl [Hd]; · iexact Hd
    isplitl [Htok]; · iexact Htok
    iexact Hr
  iintro Hc
  iapply Hk
  iexists κ
  isplitr; · iexact Hinv
  isplitl [Hc]; · iexact Hc
  iexact Hat

/-- The wait for it: what the landing hands back, and the semaphore at zero again. -/
theorem copy_wait {sp sp' : Space} {s s' : Shape} {e e' : EltTy} {src : Memref sig .scVector sp' s' e'} {dst : Memref sig .scVector sp s e}
    {sem : DmaSem sig} {hsrc : src.view.WordExact} {hdst : dst.view.WordExact} {O : CellTallies nD τ sig (HIx 1)} {W : Waits sig (HIx 1)}
    {k : PUnit → Prog (TpuEff nD τ sig (Elt F) Λ₀ (.scVector c i)) α} {Q : α → sProp 𝕄} (hO : ∀ g, O g none = 0)
    (hg : (cellKind ((V d c i, .dma sem) : GSem nD τ sig)).isSome)
    (hN : (kRd (F := F) m).amount (V d c i, .dma sem) 0 () = dst.view.dmaCredit) :
    iprop(levAts (K (F := F)).L (K (F := F)).lev ∗ InFlight m (V d c i, .dma sem) dst.view.dmaCredit ∗ owes (V d c i) O W)
      ⊢ iprop((kPay m (V d c i, .dma sem) ∗ semVal (V d c i, .dma sem) 0 ∗ owes (V d c i) O (insert (SemLoc.dma sem, none) W)
            -∗ wp frame (wpE (defs₀ (F := F)) 𝒱₀ (V d c i) none) Set.univ (k ⟨⟩) Q)
          -∗ wp frame (wpE (defs₀ (F := F)) 𝒱₀ (V d c i) none) Set.univ (.op (.waitDma2 sem src dst hsrc hdst) k) Q) := by
  unfold InFlight
  iintro ⟨#Hlv, ⟨%κ, #Hinv, Hc, Hat⟩, HO⟩ Hk
  iapply (Rounds.wp_wait_rest_token 𝒱₀ EK (kRd m) (V d c i) none (κ := κ)
      (wpE_waitDma2_eq 𝒱₀ (V d c i) none Set.univ) (Set.mem_univ κ) none (O := O) (W := W) (R := 0) (m := 0) (T := ∅)
      (by rw [Nat.zero_add, kRd_expect m hg, hN])) $$ [Hc HO Hat]
  · isplitr; · iexact Hinv
    isplitl [Hc]; · iexact Hc
    isplitl [HO]; · iexact HO
    isplitr; · iapply ((K (F := F)).mayWait_none (SemLoc.dma sem) hO); iexact Hlv
    iexact Hat
  iintro ⟨HO, Hat, -, Hpay⟩
  ihave Hp := ((kRd_back m hg).trans (Entails.of_eq (show (kRd (F := F) m).payload (V d c i, .dma sem) 0 () = kPay m (V d c i, .dma sem) from rfl))) $$ Hpay
  imod (Rounds.cell_close EK (kRd m) (Set.mem_univ κ) (fun h => h) (R := 0 + 1) (kRd_later m _)) $$ [Hat] with Hsem
  · isplitr; · iexact Hinv
    iexact Hat
  iapply Hk
  isplitl [Hp]; · iexact Hp
  isplitl [Hsem]; · iexact Hsem
  iexact HO

end Copy

/-! ## The rows the copies name -/

/-- The tiles that pass the kernel's test are those with a row to serve. -/
theorem cond_iff : ∀ L : grid0.Coords, k0_cond1 L = 1#1 ↔ 2 * (L 1).val + (L 0).val < 16 := by decide +kernel
theorem active_iff : k0_cond1 L = 1#1 ↔ Active (cV L) (jV L) := cond_iff L
theorem rowOf_val (hh : k0_cond1 L = 1#1) : (rowOf (cV L) (jV L)).val = 2 * (L 1).val + (L 0).val :=
  Nat.mod_eq_of_lt ((cond_iff L).mp hh)

/-- The table's row and the gathered array's, as the kernel cuts them. -/
abbrev tCut (hh : k0_cond1 L = 1#1) : Rect S16x100000 := Rect.unit (s := S16x100000) (k0_off1 L) S1x100000.size (k0_off1_inb L hh)
abbrev gCut (hh : k0_cond1 L = 1#1) : Rect S16x1024 := Rect.unit (s := S16x1024) (k0_off2 L) S1x1024.size (k0_off2_inb L hh)
abbrev tRowK (hh : k0_cond1 L = 1#1) : Memref sig .scVector .hbm S100000 .f32 :=
  ((tV : Memref sig .scVector .hbm S16x100000 .f32).slice (tCut L hh) (fun _ => rfl)).squeeze S100000 squeezes_S1x100000_S100000
abbrev gRowK (hh : k0_cond1 L = 1#1) : Memref sig .scVector .hbm S1024 .f32 :=
  ((gV : Memref sig .scVector .hbm S16x1024 .f32).slice (gCut L hh) (fun _ => rfl)).squeeze S1024 squeezes_S1x1024_S1024

theorem tCut_eq (hh : k0_cond1 L = 1#1) : tCut L hh = tRow (rowOf (cV L) (jV L)) := by
  have e := rowOf_val L hh
  unfold tCut tRow Rect.part Rect.block
  congr 1 <;> funext a
  · rw [k0_off1_eq]
    match a with
    | 0 => simp [Shape.partIx, Shape.partSize, e]
    | 1 => simp [Shape.partIx, Shape.partSize]
  · match a with
    | 0 => simp [Shape.partSize]
    | 1 => simp [Shape.partSize]
theorem gCut_eq (hh : k0_cond1 L = 1#1) : gCut L hh = gRow (rowOf (cV L) (jV L)) := by
  have e := rowOf_val L hh
  unfold gCut gRow Rect.part Rect.block
  congr 1 <;> funext a
  · rw [k0_off2_eq]
    match a with
    | 0 => simp [Shape.partIx, Shape.partSize, e]
    | 1 => simp [Shape.partIx, Shape.partSize]
  · match a with
    | 0 => simp [Shape.partSize]
    | 1 => simp [Shape.partSize]

theorem tRowK_set (hh : k0_cond1 L = 1#1) : (tRowK L hh).view.set = tSet (rowOf (cV L) (jV L)) := by
  show (((tV : Memref sig .scVector .hbm S16x100000 .f32).view.slice (tCut L hh)).reshape S100000 squeezes_S1x100000_S100000.numel_eq).set = _
  rw [View.set_reshape]; exact (View.set_slice _ _).trans ((congrArg (Finset.map _) (congrArg (fun r => r.set) (tCut_eq L hh))).trans (View.set_slice _ _).symm)
theorem gRowK_set (hh : k0_cond1 L = 1#1) : (gRowK L hh).view.set = gSet (rowOf (cV L) (jV L)) := by
  show (((gV : Memref sig .scVector .hbm S16x1024 .f32).view.slice (gCut L hh)).reshape S1024 squeezes_S1x1024_S1024.numel_eq).set = _
  rw [View.set_reshape]; exact (View.set_slice _ _).trans ((congrArg (Finset.map _) (congrArg (fun r => r.set) (gCut_eq L hh))).trans (View.set_slice _ _).symm)

theorem tRowK_emb (hh : k0_cond1 L = 1#1) (j : S100000.Idx) : (tRowK L hh).view.emb j = ix2 (rowOf (cV L) (jV L)) (j 0) := by
  show (tCut L hh).emb (Shape.reshapeEquiv squeezes_S1x100000_S100000.numel_eq j) = _
  rw [Shape.reshapeEquiv_cons_one (n := 1) (d := ![100000])]
  funext a; apply Fin.ext
  match a with
  | 0 => show k0_off1 L 0 + 1 * 0 = (rowOf (cV L) (jV L)).val; rw [k0_off1_eq, rowOf_val L hh]; simp
  | 1 => show k0_off1 L 1 + 1 * (j 0).val = (j 0).val; rw [k0_off1_eq]; simp
theorem gRowK_emb (hh : k0_cond1 L = 1#1) (j : S1024.Idx) : (gRowK L hh).view.emb j = ix2 (rowOf (cV L) (jV L)) (j 0) := by
  show (gCut L hh).emb (Shape.reshapeEquiv squeezes_S1x1024_S1024.numel_eq j) = _
  rw [Shape.reshapeEquiv_cons_one (n := 1) (d := ![1024])]
  funext a; apply Fin.ext
  match a with
  | 0 => show k0_off2 L 0 + 1 * 0 = (rowOf (cV L) (jV L)).val; rw [k0_off2_eq, rowOf_val L hh]; simp
  | 1 => show k0_off2 L 1 + 1 * (j 0).val = (j 0).val; rw [k0_off2_eq]; simp

/-- Reading the table's row gives the row, -/
theorem tRowK_read (hh : k0_cond1 L = 1#1) : (tRowK L hh).view.read (Elt F) (tabC m d) = rowC m d (rowOf (cV L) (jV L)) := by
  funext j
  rw [View.read_apply, cast_eq, tRowK_emb]; rfl
/-- and writing a finished scratch over the gathered array's row makes the row the gathered array's. -/
theorem gRowK_write (hh : k0_cond1 L = 1#1) (g : Vec F S16x1024 .f32) (f : Vec F S1024 .f32) (hf : Done m d (rowOf (cV L) (jV L)) 1024 f) :
    ∀ p ∈ (gRowK L hh).view.set, (gRowK L hh).view.write (Elt F) g f Finset.univ p = gathC m d p := by
  intro p hp
  obtain ⟨j, -, rfl⟩ := Finset.mem_map.mp hp
  rw [View.write_emb_of_mem (v := (gRowK L hh).view) (Val := Elt F) g f (Finset.mem_univ j), cast_eq, gRowK_emb]
  rw [show j = ix1 (j 0) from eq_ix1 j]
  exact hf (j 0) (j 0).isLt

theorem tRowK_pts (hh : k0_cond1 L = 1#1) :
    ((tRowK L hh).view.loc (V d (cV L) (jV L)) ↦[(tRowK L hh).view.set]{fullShare} tabC m d : sProp 𝕄) = tRowPts m d (rowOf (cV L) (jV L)) := by
  rw [tRowK_set]
theorem gRowK_pts (hh : k0_cond1 L = 1#1) (g : Vec F S16x1024 .f32) :
    ((gRowK L hh).view.loc (V d (cV L) (jV L)) ↦[(gRowK L hh).view.set]{fullShare} g : sProp 𝕄) = gRowPts d (rowOf (cV L) (jV L)) g := by
  rw [gRowK_set]

/-! ## The task -/

theorem pay_T (c : Fin τ.nSC) (i : Fin τ.nSub) : kPay m (cTcell d c i) = iprop(rPts m d c i ∗ tRowPts m d (rowOf c i)) := kRd_payload_cT m d c i
theorem pay_X (c : Fin τ.nSC) (i : Fin τ.nSub) : kPay m (cXcell d c i) = iprop(iPts m d c i ∗ xTokPts m d (rowOf c i)) := kRd_payload_cX m d c i
theorem pay_G (c : Fin τ.nSC) (i : Fin τ.nSub) : kPay m (cGcell d c i) = iprop(gRowPts d (rowOf c i) (gathC m d) ∗ ∃ f, oPts d c i f) := kRd_payload_cG m d c i

theorem whole_T (f : Buf (Elt F) ((V d (cV L) (jV L)).loc cc0_scratch0)) :
    ((sR : Memref sig .scVector .vmem S100000 .f32).view.loc (V d (cV L) (jV L)) ↦[(sR : Memref sig .scVector .vmem S100000 .f32).view.set]{fullShare} f : sProp 𝕄)
      = (V d (cV L) (jV L)).loc cc0_scratch0 ↦{fullShare} f := by
  simp only [Memref.view_whole, View.set_whole]
theorem whole_I (f : Buf (Elt F) ((V d (cV L) (jV L)).loc cc0_scratch1)) :
    ((sX : Memref sig .scVector .vmem S1024 .i32).view.loc (V d (cV L) (jV L)) ↦[(sX : Memref sig .scVector .vmem S1024 .i32).view.set]{fullShare} f : sProp 𝕄)
      = (V d (cV L) (jV L)).loc cc0_scratch1 ↦{fullShare} f := by
  simp only [Memref.view_whole, View.set_whole]
theorem whole_O (f : Buf (Elt F) ((V d (cV L) (jV L)).loc cc0_scratch2)) :
    ((sO : Memref sig .scVector .vmem S1024 .f32).view.loc (V d (cV L) (jV L)) ↦[(sO : Memref sig .scVector .vmem S1024 .f32).view.set]{fullShare} f : sProp 𝕄)
      = (V d (cV L) (jV L)).loc cc0_scratch2 ↦{fullShare} f := by
  simp only [Memref.view_whole, View.set_whole]
theorem whole_X (q : PosShare TreeShare) (f : Buf (Elt F) (xLoc d)) :
    ((xV : Memref sig .scVector .hbm S1024 .i32).view.loc (V d (cV L) (jV L)) ↦[(xV : Memref sig .scVector .hbm S1024 .i32).view.set]{q} f : sProp 𝕄)
      = xLoc d ↦{q} f := by
  simp only [Memref.view_whole, View.set_whole]
/-- A landing over a whole scratch leaves what it brought. -/
theorem land_T (f : Buf (Elt F) ((V d (cV L) (jV L)).loc cc0_scratch0)) (w : Vec F S100000 .f32) :
    ((sR : Memref sig .scVector .vmem S100000 .f32).view.loc (V d (cV L) (jV L)) ↦[(sR : Memref sig .scVector .vmem S100000 .f32).view.set]{fullShare}
        ((sR : Memref sig .scVector .vmem S100000 .f32).view.write (Elt F) f w Finset.univ) : sProp 𝕄)
      = (V d (cV L) (jV L)).loc cc0_scratch0 ↦{fullShare} w := by
  have e : (sR : Memref sig .scVector .vmem S100000 .f32).view.write (Elt F) f w Finset.univ = w := View.write_whole_univ _ _ _
  rw [whole_T, e]
theorem land_X (f : Buf (Elt F) ((V d (cV L) (jV L)).loc cc0_scratch1)) (w : Buf (Elt F) (xLoc d)) :
    ((sX : Memref sig .scVector .vmem S1024 .i32).view.loc (V d (cV L) (jV L)) ↦[(sX : Memref sig .scVector .vmem S1024 .i32).view.set]{fullShare}
        ((sX : Memref sig .scVector .vmem S1024 .i32).view.write (Elt F) f ((xV : Memref sig .scVector .hbm S1024 .i32).view.read (Elt F) w) Finset.univ) : sProp 𝕄)
      = (V d (cV L) (jV L)).loc cc0_scratch1 ↦{fullShare} w := by
  have e : (sX : Memref sig .scVector .vmem S1024 .i32).view.write (Elt F) f ((xV : Memref sig .scVector .hbm S1024 .i32).view.read (Elt F) w) Finset.univ = w :=
    (View.write_whole_univ _ _ _).trans (View.read_whole _ _)
  rw [whole_I, e]

/-- A tile's two fetches and its first ninety-six words, and the indices at 96. -/
theorem part1_run (hx : InRange m) (hh : k0_cond1 L = 1#1) (O : CellTallies nD τ sig (HIx 1)) (W : Waits sig (HIx 1)) (hO : ∀ g, O g none = 0)
    (f0 : Buf (Elt F) ((V d (cV L) (jV L)).loc cc0_scratch0)) (f1 : Buf (Elt F) ((V d (cV L) (jV L)).loc cc0_scratch1)) (f2 : Vec F S1024 .f32) :
    iprop(levAts (K (F := F)).L (K (F := F)).lev ∗ (kit m (cTcell d (cV L) (jV L)) ∗ semVal (cTcell d (cV L) (jV L)) 0)
        ∗ (kit m (cXcell d (cV L) (jV L)) ∗ semVal (cXcell d (cV L) (jV L)) 0)
        ∗ tRowPts m d (rowOf (cV L) (jV L)) ∗ xTokPts m d (rowOf (cV L) (jV L))
        ∗ ((V d (cV L) (jV L)).loc cc0_scratch0 ↦{fullShare} f0) ∗ ((V d (cV L) (jV L)).loc cc0_scratch1 ↦{fullShare} f1)
        ∗ oPts d (cV L) (jV L) f2 ∗ owes (V d (cV L) (jV L)) O W)
      ⊢ wp frame (wpE (defs₀ (F := F)) 𝒱₀ (V d (cV L) (jV L)) none) Set.univ
          (k0_part1 L tV (Memref.isWhole_whole _) xV (Memref.isWhole_whole _) gV (Memref.isWhole_whole _)
            sR (Memref.isWhole_whole _) sX (Memref.isWhole_whole _) sO (Memref.isWhole_whole _) cc0_scoped0 cc0_scoped1 cc0_scoped2 hh)
          fun v => iprop(⌜v = idxC m d 96 inb_S1024_S16_96⌝ ∗ Inv m d (cV L) (jV L) 96
            ∗ tRowPts m d (rowOf (cV L) (jV L)) ∗ xTokPts m d (rowOf (cV L) (jV L))
            ∗ semVal (cTcell d (cV L) (jV L)) 0 ∗ semVal (cXcell d (cV L) (jV L)) 0
            ∗ owes (V d (cV L) (jV L)) O (insert (SemLoc.dma cc0_scoped1.sem, none) (insert (SemLoc.dma cc0_scoped0.sem, none) W))) := by
  simp only [k0_part1_eq_skeleton]; unfold k0_part1_skel
  simp only [Prog.lift, Prog.bind_op, Prog.bind_ret, Prog.pure_eq_ret]
  iintro ⟨#Hlv, ⟨HkT, HsT⟩, ⟨HkX, HsX⟩, Ht, Hx, Hr, Hi, Ho, HO⟩
  ihave Ht' := (Entails.of_eq (tRowK_pts m d L hh).symm) $$ Ht
  iapply (copy_start m d (src := tRowK L hh) (dst := sR) (sem := cc0_scoped0.sem) (q := fullShare) (fs := tabC m d) (fd := f0) (by rw [cellKind_cT]; rfl) (kRd_amount_cT m d _ _) ?payT) $$ [HkT HsT Ht' Hr]
  case payT =>
    rw [pay_T, tRowK_pts, tRowK_read]
    exact BIClass.sep_mono (Entails.of_eq (land_T d L f0 _)) .rfl
  · isplitl [HkT]; · iexact HkT
    isplitl [HsT]; · iexact HsT
    isplitl [Ht']; · iexact Ht'
    iapply (Entails.of_eq (whole_T d L f0).symm); iexact Hr
  iintro Hf
  iapply (copy_wait m d (dst := sR) hO (by rw [cellKind_cT]; rfl) (kRd_amount_cT m d _ _)) $$ [Hf HO]
  · isplitr; · iexact Hlv
    isplitl [Hf]; · iexact Hf
    iexact HO
  rw [pay_T]
  iintro ⟨⟨Hr, Ht⟩, HsT, HO⟩
  iapply (copy_start m d (src := xV) (dst := sX) (sem := cc0_scoped1.sem) (q := xTok (rowOf (cV L) (jV L))) (fs := m (xLoc d)) (fd := f1) (by rw [cellKind_cX]; rfl) (kRd_amount_cX m d _ _) ?payX) $$ [HkX HsX Hx Hi]
  case payX =>
    rw [pay_X]
    exact BIClass.sep_mono (Entails.of_eq (land_X d L f1 _)) (Entails.of_eq (whole_X d L _ _))
  · isplitl [HkX]; · iexact HkX
    isplitl [HsX]; · iexact HsX
    isplitl [Hx]; · iapply (Entails.of_eq (whole_X d L _ _).symm); iexact Hx
    iapply (Entails.of_eq (whole_I d L f1).symm); iexact Hi
  iintro Hf
  iapply (copy_wait m d (dst := sX) hO (by rw [cellKind_cX]; rfl) (kRd_amount_cX m d _ _)) $$ [Hf HO]
  · isplitr; · iexact Hlv
    isplitl [Hf]; · iexact Hf
    iexact HO
  rw [pay_X]
  iintro ⟨⟨Hi, Hx⟩, HsX, HO⟩
  ihave HI := (show iprop(rPts m d (cV L) (jV L) ∗ iPts m d (cV L) (jV L) ∗ oPts d (cV L) (jV L) f2) ⊢ Inv m d (cV L) (jV L) 0 by
    unfold Inv; iintro ⟨Hr, Hi, Ho⟩
    isplitl [Hr]; · iexact Hr
    isplitl [Hi]; · iexact Hi
    iexists f2; isplitr; · ipureintro; exact fun j hj => absurd hj (Nat.not_lt_zero _)
    iexact Ho) $$ [Hr Hi Ho]
  · isplitl [Hr]; · iexact Hr
    isplitl [Hi]; · iexact Hi
    iexact Ho
  iterate 6
    iapply (step_idx m d _ _) $$ HI; iintro HI
    rw [wp_assume_of]; case h => exact fun _ => idxC_lt m d hx _ _
    iapply (step_gather m d _ _ hx) $$ HI; iintro HI
    iapply (step_dead m d _ _) $$ HI; iintro HI
    iapply (step_store m d _ _) $$ HI; iintro HI
  iapply (step_idx m d _ _) $$ HI; iintro HI
  rw [wp_ret]; imodintro
  isplitr; · ipureintro; rfl
  isplitl [HI]; · iexact HI
  isplitl [Ht]; · iexact Ht
  isplitl [Hx]; · iexact Hx
  isplitl [HsT]; · iexact HsT
  isplitl [HsX]; · iexact HsX
  iexact HO

end Cert.Proof.Lookup

end
-- ==== Proof.Task.lean ====
/-
  One tile's whole task, and what the launch asks of it.
-/
module

public import proofs.«01_k».proof.Proof.Tile

@[expose] public section

noncomputable section

namespace Cert.Proof.Lookup

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig (HIx 1) (Elt F) ℕ UU ℕ

variable (d : Dev nD) (L : grid0.Coords)

/-- A tile with a row to serve, up to its write-out under way. -/
theorem part8_run (hx : InRange m) (hh : k0_cond1 L = 1#1) (O : CellTallies nD τ sig (HIx 1)) (W : Waits sig (HIx 1)) (hO : ∀ g, O g none = 0)
    (f0 : Buf (Elt F) ((V d (cV L) (jV L)).loc cc0_scratch0)) (f1 : Buf (Elt F) ((V d (cV L) (jV L)).loc cc0_scratch1)) (f2 : Vec F S1024 .f32) :
    iprop((kit m (cGcell d (cV L) (jV L)) ∗ semVal (cGcell d (cV L) (jV L)) 0 ∗ gRowPts d (rowOf (cV L) (jV L)) (m (gLoc d)))
        ∗ (levAts (K (F := F)).L (K (F := F)).lev ∗ (kit m (cTcell d (cV L) (jV L)) ∗ semVal (cTcell d (cV L) (jV L)) 0)
        ∗ (kit m (cXcell d (cV L) (jV L)) ∗ semVal (cXcell d (cV L) (jV L)) 0)
        ∗ tRowPts m d (rowOf (cV L) (jV L)) ∗ xTokPts m d (rowOf (cV L) (jV L))
        ∗ ((V d (cV L) (jV L)).loc cc0_scratch0 ↦{fullShare} f0) ∗ ((V d (cV L) (jV L)).loc cc0_scratch1 ↦{fullShare} f1)
        ∗ oPts d (cV L) (jV L) f2 ∗ owes (V d (cV L) (jV L)) O W))
      ⊢ wp frame (wpE (defs₀ (F := F)) 𝒱₀ (V d (cV L) (jV L)) none) Set.univ
          (k0_part8 L tV (Memref.isWhole_whole _) xV (Memref.isWhole_whole _) gV (Memref.isWhole_whole _)
            sR (Memref.isWhole_whole _) sX (Memref.isWhole_whole _) sO (Memref.isWhole_whole _) cc0_scoped0 cc0_scoped1 cc0_scoped2 hh)
          fun _ => iprop(InFlight m (cGcell d (cV L) (jV L)) (gRowK L hh).view.dmaCredit
            ∗ rPts m d (cV L) (jV L) ∗ iPts m d (cV L) (jV L)
            ∗ tRowPts m d (rowOf (cV L) (jV L)) ∗ xTokPts m d (rowOf (cV L) (jV L))
            ∗ semVal (cTcell d (cV L) (jV L)) 0 ∗ semVal (cXcell d (cV L) (jV L)) 0
            ∗ owes (V d (cV L) (jV L)) O (insert (SemLoc.dma cc0_scoped1.sem, none) (insert (SemLoc.dma cc0_scoped0.sem, none) W))) := by
  simp only [k0_part8_eq_skeleton]; unfold k0_part8_skel
  simp only [Prog.lift, Prog.bind_op, Prog.bind_ret, Prog.pure_eq_ret]
  iintro ⟨⟨HkG, HsG, Hg⟩, H⟩
  rw [wp_bind]
  ihave Hw := (part1_run m d L hx hh O W hO f0 f1 f2) $$ H
  iapply (wp_wand frame _ _) $$ Hw
  iintro %v ⟨%hv, HI, Hrest⟩; subst hv
  rw [wp_bind]
  ihave Hw := (part2_run m d L hx hh) $$ HI
  iapply (wp_wand frame _ _) $$ Hw
  iintro %v ⟨%hv, HI⟩; subst hv
  rw [wp_bind]
  ihave Hw := (part3_run m d L hx hh) $$ HI
  iapply (wp_wand frame _ _) $$ Hw
  iintro %v ⟨%hv, HI⟩
  obtain ⟨v, hw⟩ := v
  obtain rfl : v = _ := hv
  rw [wp_bind]
  ihave Hw := (part4_run m d L hx hh) $$ HI
  iapply (wp_wand frame _ _) $$ Hw
  iintro %v HI
  rw [wp_bind]
  ihave Hw := (part5_run m d L hx hh) $$ HI
  iapply (wp_wand frame _ _) $$ Hw
  iintro %v ⟨%hv, HI⟩; subst hv
  rw [wp_bind]
  ihave Hw := (part6_run m d L hx hh) $$ HI
  iapply (wp_wand frame _ _) $$ Hw
  iintro %v HI
  rw [wp_bind]
  ihave Hw := (part7_run m d L hx hh) $$ HI
  iapply (wp_wand frame _ _) $$ Hw
  iintro %v ⟨%hv, HI⟩; subst hv
  iapply (step_dead m d _ _) $$ HI; iintro HI
  iapply (step_store m d _ _) $$ HI; iintro HI
  iterate 6
    iapply (step_idx m d _ _) $$ HI; iintro HI
    rw [wp_assume_of]; case h => exact fun _ => idxC_lt m d hx _ _
    iapply (step_gather m d _ _ hx) $$ HI; iintro HI
    iapply (step_dead m d _ _) $$ HI; iintro HI
    iapply (step_store m d _ _) $$ HI; iintro HI
  unfold Inv
  icases HI with ⟨Hr, Hi, %f, %hf, Ho⟩
  ihave Ho' := (Entails.of_eq (whole_O d L f).symm) $$ Ho
  ihave Hg' := (Entails.of_eq (gRowK_pts d L hh _).symm) $$ Hg
  iapply (copy_start m d (src := sO) (dst := gRowK L hh) (sem := cc0_scoped2.sem) (q := fullShare) (fs := f) (fd := m (gLoc d)) (by rw [cellKind_cG]; rfl) (kRd_amount_cG m d _ _) ?payG) $$ [HkG HsG Hg' Ho']
  case payG =>
    rw [pay_G]
    iintro ⟨Hg, Ho⟩
    isplitl [Hg]
    · iapply (Entails.of_eq ((pointsTo_congr (gRowK_write m d L hh _ f hf)).trans (gRowK_pts d L hh _))); iexact Hg
    · iexists f; iapply (Entails.of_eq (whole_O d L f)); iexact Ho
  · isplitl [HkG]; · iexact HkG
    isplitl [HsG]; · iexact HsG
    isplitl [Ho']; · iexact Ho'
    iexact Hg'
  iintro Hf
  rw [wp_ret]; imodintro
  isplitl [Hf]; · iexact Hf
  isplitl [Hr]; · iexact Hr
  isplitl [Hi]; · iexact Hi
  iexact Hrest

/-! ## A tile's own storage -/

omit [FloatOps F] in
/-- A tile's semaphores at zero: its three copies', and the rest. -/
theorem sems_split :
    (ownSems0 (V d (cV L) (jV L)) : sProp 𝕄)
      = iprop(semVal (cTcell d (cV L) (jV L)) 0 ∗ semVal (cXcell d (cV L) (jV L)) 0 ∗ semVal (cGcell d (cV L) (jV L)) 0
          ∗ bigSep ((((ownCells (V d (cV L) (jV L))).erase (cTcell d (cV L) (jV L))).erase (cXcell d (cV L) (jV L))).erase (cGcell d (cV L) (jV L)))
              fun g => semVal g 0) := by
  have own : ∀ n : DmaSem sig, (SemLoc.dma n : SemLoc sig).isScoped .scVector = true → ((V d (cV L) (jV L), .dma n) : GSem nD τ sig) ∈ ownCells (V d (cV L) (jV L)) :=
    fun n h => mem_ownCells.mpr ⟨rfl, h⟩
  have ne : ∀ a b : DmaSem sig, a ≠ b → ((V d (cV L) (jV L), .dma a) : GSem nD τ sig) ≠ (V d (cV L) (jV L), .dma b) :=
    fun a b h e => h (SemLoc.dma.inj (Prod.mk.inj e).2)
  unfold SparseCore.Cfg.ownSems0
  rw [SparseCore.bigSep_erase' (own cc0_scoped0.sem (by decide)),
    SparseCore.bigSep_erase' (Finset.mem_erase.mpr ⟨ne _ _ (by decide), own cc0_scoped1.sem (by decide)⟩),
    SparseCore.bigSep_erase' (Finset.mem_erase.mpr ⟨ne _ _ (by decide), Finset.mem_erase.mpr ⟨ne _ _ (by decide), own cc0_scoped2.sem (by decide)⟩⟩)]

omit [FloatOps F] in
/-- A tile's buffers: its three scratches, and the rest. -/
theorem bufs_split :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have own : ∀ b : Ref sig .scVector, ((Proc.scVector (cV L) (jV L)).devRef b).owner = .proc (.scVector (cV L) (jV L)) →
      (Proc.scVector (cV L) (jV L)).devRef b ∈ ownRefs (τ := τ) (.scVector (cV L) (jV L)) := fun b h => SparseCore.Cfg.mem_ownRefs_of_owner h
  have ne : ∀ a b : Ref sig .scVector, a ≠ b → (Proc.scVector (cV L) (jV L)).devRef a ≠ (Proc.scVector (cV L) (jV L)).devRef b :=
    fun a b h e => h (Proc.devRef_injective _ e)
  unfold SparseCore.Cfg.ownBufs
  refine (SparseCore.bigSep_erase' (own cc0_scratch0 rfl)).trans ?_
  rw [SparseCore.bigSep_erase' (Finset.mem_erase.mpr ⟨ne _ _ (by decide), own cc0_scratch1 rfl⟩),
    SparseCore.bigSep_erase' (Finset.mem_erase.mpr ⟨ne _ _ (by decide), Finset.mem_erase.mpr ⟨ne _ _ (by decide), own cc0_scratch2 rfl⟩⟩)]

/-- The task of the tile at `L`, from what it is sent to what it sends back: the kernel's test decides whether it has a row
    to serve, and with none it does nothing. -/
theorem tile_body (hx : InRange m) (hF : (K (F := F)).Facts) (O : CellTallies nD τ sig (HIx 1)) (W : Waits sig (HIx 1)) (hO : ∀ g, O g none = 0) :
    iprop(levAts (K (F := F)).L (K (F := F)).lev ∗ (kit m (cTcell d (cV L) (jV L)) ∗ kit m (cXcell d (cV L) (jV L)) ∗ kit m (cGcell d (cV L) (jV L)))
        ∗ taskPts m d (cV L) (jV L) (m (gLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L tV (Memref.isWhole_whole _) xV (Memref.isWhole_whole _) gV (Memref.isWhole_whole _)
            sR (Memref.isWhole_whole _) sX (Memref.isWhole_whole _) sO (Memref.isWhole_whole _) cc0_scoped0 cc0_scoped1 cc0_scoped2)
          fun _ => iprop(taskPts m d (cV L) (jV L) (gathC m d) ∗ scopedBufs (V d (cV L) (jV L)) ∗ scopedSems0 (V d (cV L) (jV L))
            ∗ ∃ W', ⌜∀ p ∈ W', p ∈ W ∨ p.2 = none ∨ p.2 = some 0⌝ ∗ owes (V d (cV L) (jV L)) O W') := by
  simp only [cc0_gather_k_eq_skeleton]; unfold cc0_gather_k_skel taskPts
  by_cases hh : k0_cond1 L = 1#1
  · have ha : Active (cV L) (jV L) := (active_iff L).mp hh
    simp only [dif_pos hh, if_pos ha, Prog.lift, Prog.bind_op, Prog.bind_ret, Prog.pure_eq_ret]
    rw [(K (F := F)).scopedBufs_V hF d (cV L) (jV L), SparseCore.Cfg.scopedSems0_V (Val := Elt F) d (cV L) (jV L), sems_split, bufs_split]
    iintro ⟨#Hlv, ⟨HkT, HkX, HkG⟩, ⟨Ht, Hx, Hg⟩, ⟨⟨%f0, Hr⟩, ⟨%f1, Hi⟩, ⟨%f2, Ho⟩, Hbufs⟩, ⟨HsT, HsX, HsG, Hsems⟩, HO⟩
    rw [wp_bind]
    ihave Hw := (part8_run m d L hx hh O W hO f0 f1 f2) $$ [HkT HkX HkG Ht Hx Hg Hr Hi Ho HsT HsX HsG HO]
    · isplitl [HkG HsG Hg]
      · isplitl [HkG]; · iexact HkG
        isplitl [HsG]; · iexact HsG
        iexact Hg
      isplitr; · iexact Hlv
      isplitl [HkT HsT]
      · isplitl [HkT]; · iexact HkT
        iexact HsT
      isplitl [HkX HsX]
      · isplitl [HkX]; · iexact HkX
        iexact HsX
      isplitl [Ht]; · iexact Ht
      isplitl [Hx]; · iexact Hx
      isplitl [Hr]; · iexact Hr
      isplitl [Hi]; · iexact Hi
      isplitl [Ho]; · iexact Ho
      iexact HO
    iapply (wp_wand frame _ _) $$ Hw
    iintro %v ⟨Hf, Hr, Hi, Ht, Hx, HsT, HsX, HO⟩
    iapply (copy_wait m d (dst := gRowK L hh) hO (by rw [cellKind_cG]; rfl) (kRd_amount_cG m d _ _)) $$ [Hf HO]
    · isplitr; · iexact Hlv
      isplitl [Hf]; · iexact Hf
      iexact HO
    rw [pay_G]
    iintro ⟨⟨Hg, %f, Ho⟩, HsG, HO⟩
    rw [wp_ret]; imodintro
    isplitl [Ht Hx Hg]
    · isplitl [Ht]; · iexact Ht
      isplitl [Hx]; · iexact Hx
      iexact Hg
    isplitl [Hr Hi Ho Hbufs]
    · isplitl [Hr]; · iexists _; iexact Hr
      isplitl [Hi]; · iexists _; iexact Hi
      isplitl [Ho]; · iexists f; iexact Ho
      iexact Hbufs
    isplitl [HsT HsX HsG Hsems]
    · isplitl [HsT]; · iexact HsT
      isplitl [HsX]; · iexact HsX
      isplitl [HsG]; · iexact HsG
      iexact Hsems
    iexists _; isplitr; swap; · iexact HO
    ipureintro; intro p hp
    simp only [Finset.mem_insert] at hp
    rcases hp with rfl | rfl | rfl | hp
    · exact .inr (.inl rfl)
    · exact .inr (.inl rfl)
    · exact .inr (.inl rfl)
    · exact .inl hp
  · have ha : ¬ Active (cV L) (jV L) := fun h => hh ((active_iff L).mpr h)
    simp only [dif_neg hh, if_neg ha, Prog.bind_ret, Prog.pure_eq_ret]
    iintro ⟨-, -, -, Hb, Hs, HO⟩
    rw [wp_ret]; imodintro
    isplitr; · iempintro
    isplitl [Hb]; · iexact Hb
    isplitl [Hs]; · iexact Hs
    iexists W; isplitr; swap; · iexact HO
    ipureintro; exact fun p hp => .inl hp

/-! ## What the launch asks of the call -/

/-- The pair of a SparseCore and a tile, as the kernel's two grid coordinates. -/
def pairOf (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0_gather_k (pairOf c s)
          tV (Memref.isWhole_whole _) xV (Memref.isWhole_whole _) gV (Memref.isWhole_whole _)
          sR (Memref.isWhole_whole _) sX (Memref.isWhole_whole _) sO (Memref.isWhole_whole _) cc0_scoped0 cc0_scoped1 cc0_scoped2) ⟨⟩ c s := rfl

/-- Every tile of the call runs its task. -/
theorem tileObl (hx : InRange m) (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte]
  exact tile_body m d (pairOf ⟨_, hc.1⟩ ⟨_, hc.2⟩) hx hF O W hO

/-- The call's operands are its tiles' as they are. -/
theorem vecSplit : (K (F := F)).VecSplit' (P m) 0 := by
  intro d c
  show (bigSep Finset.univ fun i : Fin ((K (F := F)).nSub 0) => taskPts m d (coreOf (F := F) c) (subOf (F := F) i) (m (gLoc d))) ⊢ |={Set.univ}=> iprop(
      (bigSep Finset.univ fun i : Fin ((K (F := F)).nSub 0) => taskPts m d (coreOf (F := F) c) (subOf (F := F) i) (m (gLoc d)))
      ∗ ((bigSep Finset.univ fun i : Fin ((K (F := F)).nSub 0) => taskPts m d (coreOf (F := F) c) (subOf (F := F) i) (gathC m d))
          -∗ bigSep Finset.univ fun i : Fin ((K (F := F)).nSub 0) => taskPts m d (coreOf (F := F) c) (subOf (F := F) i) (gathC m d)))
  iintro H; imodintro
  isplitl [H]; · iexact H
  iintro H; iexact H

end Cert.Proof.Lookup

end
-- ==== Proof.Ghost.lean ====
/-
  The ghost state the launch owns at the start, and how it is dealt: the handshakes' cells to the launch theorem, each
  tile's three DMA cells to that tile, the pipeline's staging cells to each device's TensorCore for its region.
-/
module

public import proofs.«01_k».proof.Proof.Region
public import proofs.«01_k».proof.Proof.Task

@[expose] public section

noncomputable section

namespace Cert.Proof.Lookup

open Cert.KernelIdeal Cert.KernelIdeal.Gen

open Idealize.ShloMosaic
open Idealize.ShloMosaic.TcCoe Idealize.ShloMosaic.Tactic
open Idealize.ShloMosaic.ValueIdx (ix1 ix2 eq_ix1 eq_ix2)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cells launchToks cellsGhost toksInit)

variable {F : FTy → Type} [FloatOps F]

local notation "𝕄" => MT nD τ sig (HIx 1) (Elt F) ℕ UU ℕ

variable (m : (ℓ : Loc nD τ sig) → Buf (Elt F) ℓ)

/-! ## The element the launch owns at the start -/

/-- The tiles' DMA cells: the row fetch's, the index fetch's and the write-out's. -/
def kCells : Finset (GSem nD τ sig) :=
  ((Finset.univ.image fun t : Dev nD × Fin τ.nSC × Fin τ.nSub => cTcell t.1 t.2.1 t.2.2)
    ∪ (Finset.univ.image fun t : Dev nD × Fin τ.nSC × Fin τ.nSub => cXcell t.1 t.2.1 t.2.2))
    ∪ (Finset.univ.image fun t : Dev nD × Fin τ.nSC × Fin τ.nSub => cGcell t.1 t.2.1 t.2.2)

/-- One transfer in each. -/
def kToks : Finset (GSem nD τ sig × ℕ × Unit) := kCells.map ⟨fun g => (g, 0, ()), fun _ _ e => (Prod.mk.inj e).1⟩

/-- The pipeline's part: its staging buffers' cells and every transfer its loop issues. -/
def pEl : UP := initOf (cells (Pipeline.pin (pcfgs (F := F)) adm) cellOf_inj) (launchToks (Pipeline.pin (pcfgs (F := F)) adm) cellOf_inj)

/-- The whole element: the handshakes', the tiles' and the pipeline's parts. -/
def u₀ : UU := (initOf (K (F := F)).hsCells (K (F := F)).hsToks, (initOf kCells kToks, pEl (F := F)))

/-- Owning a triple is owning its three parts. -/
theorem ownU_parts (a : UH) (b : UK) (c : UP) : (ownU (a, (b, c)) : sProp 𝕄) ⊢ iprop(BI.own (EH a) ∗ BI.own (EK b) ∗ BI.own (EP c)) := by
  have h1 : (ownU (a, (b, c)) : sProp 𝕄) ⊢ iprop(BI.own (EH a) ∗ ownU ((1, (b, c)) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  have h2 : (ownU ((1, (b, c)) : UU) : sProp 𝕄) ⊢ iprop(BI.own (EK b) ∗ BI.own (EP c)) :=
    BI.own_op_elim ((uEmb (nD := nD) (sig := sig) (Ix := HIx 1) (Val := Elt F) (Name := ℕ) (U := UU) (Lvl := ℕ)).toEmb.op_of_mem
      (Prod.mk_mem_op (URA.mem_op_one 1) (Prod.mk_mem_op (URA.mem_op_one b) (URA.mem_one_op c))))
  exact h1.trans (BIClass.sep_mono (BI.Entails.refl _) h2)

/-! ## Dealing it out -/

/-- The tiles' part makes every cell's kit. -/
theorem kits_intro : (BI.own (EK (initOf kCells kToks)) : sProp 𝕄) ⊢ iprop(|==> bigSep kCells (kit m)) := by
  iintro H
  imod (Rounds.fund EK (kRd m) kCells kToks) $$ H with ⟨Hst, Hr, Hat, Htok⟩
  ihave Htok := (Entails.of_eq (show (bigSep kToks fun x => (dutyTok EK x.1 x.2.1 x.2.2 : sProp 𝕄)) = bigSep kCells fun g => dutyTok EK g 0 () from by
    unfold kToks; rw [bigSep_map]; rfl)) $$ Htok
  imodintro
  unfold kit
  rw [bigSep_sep', bigSep_sep', bigSep_sep']
  isplitl [Hst]; · iexact Hst
  isplitl [Hat]; · iexact Hat
  isplitl [Hr]; · iexact Hr
  iexact Htok

/-- A cell at each tile: distinct tiles, distinct cells. -/
theorem tile_inj (sm : SemLoc sig) :
    Set.InjOn (fun t : Dev nD × Fin τ.nSC × Fin τ.nSub => ((V t.1 t.2.1 t.2.2, sm) : GSem nD τ sig)) ((Finset.univ : Finset (Dev nD × Fin τ.nSC × Fin τ.nSub)) : Set _) := by
  intro a _ b _ e
  obtain ⟨h1, h2⟩ := Prod.mk.inj (Prod.mk.inj e).1; obtain ⟨h3, h4⟩ := Proc.scVector.inj h2
  exact Prod.ext h1 (Prod.ext h3 h4)

/-- Every tile is dealt its three kits, and no other thread anything. -/
theorem kits_deal : (bigSep kCells (kit (F := F) m) : sProp 𝕄) ⊢ bigSep Finset.univ fun thr : Thread nD τ => bigSep Finset.univ fun q : Fin 1 => (P m).x q thr := by
  have eT (d : Dev nD) : (bigSep Finset.univ fun q : Fin 1 => (P (F := F) m).x q (T d)) = iprop(emp) := bigSep_univ_of_subsingleton (0 : Fin 1)
  have eS (d : Dev nD) (c : Fin τ.nSC) : (bigSep Finset.univ fun q : Fin 1 => (P (F := F) m).x q (S d c)) = iprop(emp) := bigSep_univ_of_subsingleton (0 : Fin 1)
  have eV (d : Dev nD) (c : Fin τ.nSC) (i : Fin τ.nSub) : (bigSep Finset.univ fun q : Fin 1 => (P (F := F) m).x q (V d c i))
      = iprop(kit m (cTcell d c i) ∗ kit m (cXcell d c i) ∗ kit m (cGcell d c i)) := bigSep_univ_of_subsingleton (0 : Fin 1)
  rw [SparseCore.Cfg.bigSep_threads (fun thr : Thread nD τ => bigSep Finset.univ fun q : Fin 1 => (P m).x q thr)]
  have e0 {I : Type} (s : Finset I) : (bigSep s fun _ => iprop(emp)) = (iprop(emp) : sProp 𝕄) := bigSep_emp_const s
  simp only [eT, eS, eV, e0]
  unfold kCells
  rw [SparseCore.bigSep_union' ?d1, SparseCore.bigSep_union' ?d2,
    SparseCore.bigSep_image_of_injOn (tile_inj _) (kit m), SparseCore.bigSep_image_of_injOn (tile_inj _) (kit m),
    SparseCore.bigSep_image_of_injOn (tile_inj _) (kit m)]
  case d1 =>
    refine Finset.disjoint_left.mpr fun g h1 h2 => ?_
    obtain ⟨b, -, e⟩ := Finset.mem_image.mp h2
    rcases Finset.mem_union.mp h1 with h1 | h1 <;>
    · obtain ⟨a, -, rfl⟩ := Finset.mem_image.mp h1
      exact absurd (Prod.mk.inj e).2 (by decide)
  case d2 =>
    refine Finset.disjoint_left.mpr fun g h1 h2 => ?_
    obtain ⟨a, -, rfl⟩ := Finset.mem_image.mp h1
    obtain ⟨b, -, e⟩ := Finset.mem_image.mp h2
    exact absurd (Prod.mk.inj e).2 (by decide)
  rw [bigSep_sep' (Finset.univ : Finset (Dev nD × Fin τ.nSC × Fin τ.nSub)), bigSep_sep' (Finset.univ : Finset (Dev nD × Fin τ.nSC × Fin τ.nSub))]
  iintro ⟨⟨HA, HX⟩, HB⟩
  isplitr; · iempintro
  isplitr; · iempintro
  isplitl [HA]; · iexact HA
  isplitl [HX]; · iexact HX
  iexact HB

/-- What `@main` on device `d` keeps for its region: the pipeline's cells' state and its transfers' tokens. -/
def regGhost (d : Dev nD) : sProp 𝕄 :=
  iprop(cellsGhost (Pipeline.pin (pcfgs (F := F)) adm) EP 0 d ∗ toksInit (Pipeline.pin (pcfgs (F := F)) adm) EP 0 d)

/-- The pipeline's part makes every device's. -/
theorem region_deal : (BI.own (EP (pEl (F := F))) : sProp 𝕄) ⊢ iprop(|==> bigSep Finset.univ fun d : Dev nD => regGhost (F := F) d) := by
  unfold pEl
  iintro H
  imod (Pipeline.fund_ghost (Pipeline.pin (pcfgs (F := F)) adm) EP cellOf_inj) $$ H with ⟨Hg, Ht⟩
  imodintro
  unfold regGhost
  rw [bigSep_sep']
  isplitl [Hg]
  · iapply (Entails.of_eq (BI.bigSep_congr fun (d : Dev nD) _ => bigSep_univ_of_subsingleton (0 : Fin 1)
      (Φ := fun p : Fin 1 => (cellsGhost (Pipeline.pin (pcfgs (F := F)) adm) EP p d : sProp 𝕄)))); iexact Hg
  · iapply (Entails.of_eq (BI.bigSep_congr fun (d : Dev nD) _ => bigSep_univ_of_subsingleton (0 : Fin 1)
      (Φ := fun p : Fin 1 => (toksInit (Pipeline.pin (pcfgs (F := F)) adm) EP p d : sProp 𝕄)))); iexact Ht

/-- The launch's element, dealt: the handshakes' part, each device's for its region, each tile's kits. -/
theorem hu₀ : (ownU (u₀ (F := F)) : sProp 𝕄)
    ⊢ |={Set.univ}=> iprop(BI.own (EH (initOf (K (F := F)).hsCells (K (F := F)).hsToks)) ∗ (bigSep Finset.univ fun d : Dev nD => regGhost (F := F) d)
        ∗ bigSep Finset.univ fun thr : Thread nD τ => bigSep Finset.univ fun q : Fin 1 => (P m).x q thr) := by
  unfold u₀
  iintro Hu
  ihave H := (ownU_parts _ _ _) $$ Hu
  icases H with ⟨HH, HK, HP⟩
  imod (kits_intro m) $$ HK with Hkits
  imod (region_deal (F := F)) $$ HP with Hreg
  imodintro
  isplitl [HH]; · iexact HH
  isplitl [Hreg]; · iexact Hreg
  iapply (kits_deal m); iexact Hkits

end Cert.Proof.Lookup

end
-- ==== Proof.Run.lean ====
/-
  The whole program's run: the lookup's operands split among the tiles that have a row, `@main` on a TensorCore (the
  table transposed, the lookup, the biases reshaped, the dense region, the result transposed), and what the launch
  theorem concludes of it, over any float values.
-/
module

public import proofs.«01_k».proof.Proof.Ghost

@[expose] public section

noncomputable section

namespace Cert.Proof.Lookup

open Cert.KernelIdeal Cert.KernelIdeal.Gen

open Idealize.ShloMosaic
open Idealize.ShloMosaic.TcCoe Idealize.ShloMosaic.Tactic
open Idealize.ShloMosaic.ValueIdx (ix1 ix2 eq_ix1 eq_ix2)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cells launchToks cellsGhost toksInit)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The lookup's operands, a row for each tile that has one -/

omit [FloatOps F] in
/-- A family over the tiles of the call, each active tile's entry that of its row and the others empty, is the family over the rows. -/
theorem rows_of_tiles (Φ : Fin 16 → sProp 𝕄) :
    (bigSep Finset.univ fun c : Fin 2 => bigSep Finset.univ fun i : Fin 16 =>
        if 2 * i.val + c.val < 16 then Φ ⟨(2 * i.val + c.val) % 16, Nat.mod_lt _ (by decide)⟩ else iprop(emp))
      = bigSep Finset.univ Φ := by
  have e0 {I : Type} (s : Finset I) : (bigSep s fun _ => iprop(emp)) = (iprop(emp) : sProp 𝕄) := bigSep_emp_const s
  rw [← BI.bigSep_univ_prod (fun t : Fin 2 × Fin 16 => (if 2 * t.2.val + t.1.val < 16 then
      Φ ⟨(2 * t.2.val + t.1.val) % 16, Nat.mod_lt _ (by decide)⟩ else iprop(emp) : sProp 𝕄)),
    SparseCore.bigSep_filter_split' _ (fun t : Fin 2 × Fin 16 => 2 * t.2.val + t.1.val < 16),
    BI.bigSep_congr (fun t ht => if_neg (Finset.mem_filter.mp ht).2) (s := Finset.univ.filter fun t : Fin 2 × Fin 16 => ¬ 2 * t.2.val + t.1.val < 16),
    e0, BI.bigSep_congr (fun t ht => if_pos (Finset.mem_filter.mp ht).2) (s := Finset.univ.filter fun t : Fin 2 × Fin 16 => 2 * t.2.val + t.1.val < 16),
    ← SparseCore.bigSep_image_of_injOn (f := fun t : Fin 2 × Fin 16 => (⟨(2 * t.2.val + t.1.val) % 16, Nat.mod_lt _ (by decide)⟩ : Fin 16)) ?_ Φ]
  · rw [show (Finset.univ.filter fun t : Fin 2 × Fin 16 => 2 * t.2.val + t.1.val < 16).image
      (fun t : Fin 2 × Fin 16 => (⟨(2 * t.2.val + t.1.val) % 16, Nat.mod_lt _ (by decide)⟩ : Fin 16)) = Finset.univ by decide]
    exact BI.Entails.antisymm sep_emp.1 sep_emp.2
  · intro a ha b hb e
    have ha := (Finset.mem_filter.mp (Finset.mem_coe.mp ha)).2
    have hb := (Finset.mem_filter.mp (Finset.mem_coe.mp hb)).2
    have e := congrArg Fin.val e
    simp only at e
    exact Prod.ext (Fin.ext (by omega)) (Fin.ext (by omega))

/-- An array of sixteen rows is its rows. -/
theorem tab_rows (d : Dev nD) (f : Vec F S16x100000 .f32) :
    (tLoc d ↦{fullShare} f : sProp 𝕄) = bigSep Finset.univ fun w : Fin 16 => tLoc d ↦[tSet w]{fullShare} f := by
  have e (w : Fin 16) : tSet w = (tRow w).set := View.set_slice_whole _ _
  simp only [e]
  rw [← pointsTo_biUnion Finset.univ (ℓ := tLoc d) (fun w : Fin 16 => (tRow w).set) (fun a _ b _ h => Rect.part_disjoint hdivT h),
    Rect.biUnion_part hdivT]
theorem gath_rows (d : Dev nD) (f : Vec F S16x1024 .f32) :
    (gLoc d ↦{fullShare} f : sProp 𝕄) = bigSep Finset.univ fun w : Fin 16 => gLoc d ↦[gSet w]{fullShare} f := by
  have e (w : Fin 16) : gSet w = (gRow w).set := View.set_slice_whole _ _
  simp only [e]
  rw [← pointsTo_biUnion Finset.univ (ℓ := gLoc d) (fun w : Fin 16 => (gRow w).set) (fun a _ b _ h => Rect.part_disjoint hdivG h),
    Rect.biUnion_part hdivG]

/-- What the tiles are sent or send back is the transposed table, a share of the indices for each row, and the gathered array. -/
theorem tiles_eq (d : Dev nD) (f : Vec F S16x1024 .f32) :
    (bigSep Finset.univ fun c : Fin ((K (F := F)).nCore 0) => bigSep Finset.univ fun i : Fin ((K (F := F)).nSub 0) =>
        taskPts m d (coreOf (F := F) c) (subOf (F := F) i) f)
      = iprop((tLoc d ↦{fullShare} tabC m d) ∗ (bigSep Finset.univ fun w : Fin 16 => xTokPts m d w) ∗ gLoc d ↦{fullShare} f) := by
  refine (rows_of_tiles (fun w : Fin 16 => iprop(tRowPts m d w ∗ xTokPts m d w ∗ gRowPts d w f))).trans ?_
  rw [bigSep_sep', bigSep_sep', ← tab_rows, ← gath_rows]

theorem call_back (d : Dev nD) :
    (bigSep Finset.univ fun c : Fin ((K (F := F)).nCore 0) => (P m).dn 0 d c)
      = iprop((tLoc d ↦{fullShare} tabC m d) ∗ (bigSep Finset.univ fun w : Fin 16 => xTokPts m d w) ∗ gLoc d ↦{fullShare} gathC m d) :=
  tiles_eq m d (gathC m d)

/-! ## `@main`'s host operations and its region -/

/-- An operation over two arrays that leaves the first. -/
theorem wp_two (d : Dev nD) (op : HloOp τ sig (Elt F)) {x y : DevRef τ sig} (hb : op.bufs = {x, y}) (hne : x ≠ y) (hw : x ∉ op.writes)
    (hf : op.fresh = ∅) (W : Valuation τ sig (Elt F)) (Q : PUnit → sProp 𝕄) :
    iprop(boundary (SparseCore.T d) ∗ (((d, x) : Loc nD τ sig) ↦{fullShare} W x) ∗ ((d, y) : Loc nD τ sig) ↦{fullShare} W y)
      ⊢ iprop(((boundary (SparseCore.T d) ∗ (((d, x) : Loc nD τ sig) ↦{fullShare} W x) ∗ ((d, y) : Loc nD τ sig) ↦{fullShare} op.result W y) -∗ Q ⟨⟩)
        -∗ wp frame (wpE ((K (F := F)).defs (D (F := F))) 𝒱 (SparseCore.T d) none) Set.univ (hlo rfl op fun _ => .ret ⟨⟩) Q) := by
  iintro ⟨Hb, Hx, Hy⟩ Hk
  iapply (wp_hlo 𝒱 (SparseCore.T d) none Set.univ (op := op) (q := fun _ => fullShare) (F := W) (fun _ _ => rfl) hf) $$ [Hb Hx Hy]
  · isplitl [Hb]; · iexact Hb
    rw [hb, SparseCore.bigSep_insert' (by rwa [Finset.mem_singleton]), bigSep_singleton]
    isplitl [Hx]; · iexact Hx
    iexact Hy
  rw [hb, SparseCore.bigSep_insert' (by rwa [Finset.mem_singleton]), bigSep_singleton, op.result_of_not_mem W hw]
  iintro ⟨Hb, Hx, Hy⟩
  rw [wp_ret]; imodintro
  iapply Hk
  isplitl [Hb]; · iexact Hb
  isplitl [Hx]; · iexact Hx
  iexact Hy

variable [∀ e, Nonempty (Elt F e)]

/-- The region's call in `@main`: from its operands, the result's array and the core's dues to the same with the result written. -/
theorem region_step (d : Dev nD) (Q : PUnit → sProp 𝕄) :
    iprop((iprop(boundary (SparseCore.T d) ∗ operands m d ∗ result m d ∗ dues (F := F) d) -∗ Q ⟨⟩)
        ∗ boundary (SparseCore.T d) ∗ (operands m d ∗ ((SparseCore.T d).loc main_v3 ↦{fullShare} m ((SparseCore.T d).loc main_v3)) ∗ dues (F := F) d)
        ∗ levAts (K (F := F)).L (K (F := F)).lev ∗ regGhost (F := F) d)
      ⊢ wp frame (wpE ((K (F := F)).defs (D (F := F))) 𝒱 (SparseCore.T d) none) Set.univ
          (Prog.lift (.customCall (SparseCore.inner (Pipeline.entry 0)) ())) Q := by
  have hl := (K (F := F)).wp_liftProg (D (F := F)) 𝒱 (SparseCore.T d) Set.univ none
    (.op (.customCall (Pipeline.entry 0) ()) .ret : Prog (TpuEff nD τ sig (Elt F) (ΛP (F := F)) .tc) PUnit) Q
  have h := Pipeline.RDat.RegionSeg.wp (pcfgs (F := F)) adm (rdats m) none cellOf_inj EP defs₀ 𝒱₀ (K (F := F)).L (K (F := F)).lev
    (reg m) d none (fun _ h => nomatch h) (α := PUnit) .ret Q
  have h := h.trans hl
  rw [show (reg m).post d = iprop(operands m d ∗ result m d ∗ dues (F := F) d) from rfl,
    show (reg m).pre d = iprop(operands m d ∗ ((SparseCore.T d).loc main_v3 ↦{fullShare} m ((SparseCore.T d).loc main_v3)) ∗ dues (F := F) d) from rfl] at h
  unfold regGhost
  iintro ⟨Hk, Hb, Hpre, Hlev, Hg, Ht⟩
  iapply h
  isplitl [Hk]
  · iintro ⟨Hb, Hpost⟩
    rw [wp_ret]; imodintro
    iapply Hk
    isplitl [Hb]; · iexact Hb
    iexact Hpost
  isplitl [Hb]; · iexact Hb
  isplitl [Hpre]; · iexact Hpre
  isplitl [Hlev]; · iexact Hlev
  isplitl [Hg]; · iexact Hg
  iexact Ht

/-! ## `@main` -/

abbrev eRef : DevRef τ sig := Proc.devRef .tc (main_arg1 : Ref sig .tc)
abbrev tRef : DevRef τ sig := Proc.devRef .tc (main_v0 : Ref sig .tc)
abbrev bRef : DevRef τ sig := Proc.devRef .tc (main_arg3 : Ref sig .tc)
abbrev cRef : DevRef τ sig := Proc.devRef .tc (main_v2 : Ref sig .tc)
abbrev rRef : DevRef τ sig := Proc.devRef .tc (main_v3 : Ref sig .tc)
abbrev oRef : DevRef τ sig := Proc.devRef .tc (main_v4 : Ref sig .tc)

/-- The three host operations: the table transposed, the biases as a column, the result transposed. -/
abbrev opTab : HloOp τ sig (Elt F) :=
  StableHlo.unary main_arg1 main_v0 ((transpose S16x100000 [1, 0] · transposes_S100000x16_S16x100000_1_0) : (⟨S100000x16, .f32⟩ : BufTy).Contents (Elt F) → (⟨S16x100000, .f32⟩ : BufTy).Contents (Elt F))
abbrev opBias : HloOp τ sig (Elt F) := StableHlo.reshape main_arg3 main_v2 (rfl : (.f32 : EltTy) = .f32) shapeCasts_S16_S16x1
abbrev opOut : HloOp τ sig (Elt F) :=
  StableHlo.unary main_v3 main_v4 ((transpose S1024x100000 [1, 0] · transposes_S100000x1024_S1024x100000_1_0) : (⟨S100000x1024, .f32⟩ : BufTy).Contents (Elt F) → (⟨S1024x100000, .f32⟩ : BufTy).Contents (Elt F))

/-- The launch memory as device `d`'s valuation, and the same with the region's result at `G`. -/
def V0 (d : Dev nD) : Valuation τ sig (Elt F) := fun b => m (d, b)
def V1 (d : Dev nD) (G : Vec F S100000x1024 .f32) : Valuation τ sig (Elt F) := Function.update (V0 m d) rRef G

/-- The result at `G` transposed. -/
def outC (G : Vec F S100000x1024 .f32) : Vec F S1024x100000 .f32 := transpose S1024x100000 [1, 0] G transposes_S100000x1024_S1024x100000_1_0

omit [∀ e, Nonempty (Elt F e)] in
theorem opTab_tab (d : Dev nD) : (opTab (F := F)).result (V0 m d) tRef = tabC m d := StableHlo.unary_result _ _ _ _ _ _
omit [∀ e, Nonempty (Elt F e)] in
theorem opBias_col (d : Dev nD) : (opBias (F := F)).result (V0 m d) cRef = biasC m d := StableHlo.reshape_result _ _ _ _ _ _ _
omit [∀ e, Nonempty (Elt F e)] in
theorem opOut_out (d : Dev nD) (G : Vec F S100000x1024 .f32) : (opOut (F := F)).result (V1 m d G) oRef = outC G :=
  (StableHlo.unary_result _ _ _ _ _ _).trans (by rw [show V1 m d G (Proc.devRef .tc main_v3) = G from Function.update_self _ _ _]; rfl)

omit [∀ e, Nonempty (Elt F e)] in
/-- The arrays the TensorCore starts with. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (eLoc d ↦{fullShare} W main_arg1) ∗ ((SparseCore.T d).loc main_arg2 ↦{fullShare} W main_arg2)
          ∗ ((SparseCore.T d).loc main_arg3 ↦{fullShare} W main_arg3) ∗ ((SparseCore.T d).loc main_arg4 ↦{fullShare} W main_arg4)
          ∗ ((SparseCore.T d).loc main_arg5 ↦{fullShare} W main_arg5) ∗ (tLoc d ↦{fullShare} W main_v0) ∗ (gLoc d ↦{fullShare} W main_v1)
          ∗ ((SparseCore.T d).loc main_v2 ↦{fullShare} W main_v2) ∗ ((SparseCore.T d).loc main_v3 ↦{fullShare} W main_v3)
          ∗ ((SparseCore.T d).loc main_v4 ↦{fullShare} W main_v4)) := by
  unfold unscopedBufs
  rw [show (Finset.univ.filter fun b : Ref sig .tc => ¬ b.isScoped)
      = {main_arg0, main_arg1, main_arg2, main_arg3, main_arg4, main_arg5, main_v0, main_v1, main_v2, main_v3, main_v4} by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- What `@main` leaves: the arguments as launched, the result some array the region may leave, transposed. -/
def FIN (d : Dev nD) : sProp 𝕄 :=
  iprop((xLoc d ↦{fullShare} m (xLoc d)) ∗ (eLoc d ↦{fullShare} m (eLoc d)) ∗ ((SparseCore.T d).loc main_arg2 ↦{fullShare} m ((SparseCore.T d).loc main_arg2))
    ∗ ((SparseCore.T d).loc main_arg3 ↦{fullShare} m ((SparseCore.T d).loc main_arg3)) ∗ ((SparseCore.T d).loc main_arg4 ↦{fullShare} m ((SparseCore.T d).loc main_arg4))
    ∗ ((SparseCore.T d).loc main_arg5 ↦{fullShare} m ((SparseCore.T d).loc main_arg5))
    ∗ ∃ G : Vec F S100000x1024 .f32, ⌜(rdat m d).ArrAt 5 cfg1.N G⌝ ∗ ((SparseCore.T d).loc main_v4 ↦{fullShare} (outC G : Buf (Elt F) ((SparseCore.T d).loc main_v4))))

/-- `@main` on device `d`'s TensorCore. -/
theorem hmain (κ : GSem nD τ sig → ℕ) (d : Dev nD) :
    iprop((K (F := F)).ctx EH (P m) κ ∗ (K (F := F)).tcSt EH d 0 ∗ (K (F := F)).tcRes m ρ d ∗ regGhost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, He, H2, H3, H4, H5, Ht, Hg, Hc, Hr, Ho⟩, Hts, -⟩, Hgh⟩
  -- the table transposed
  iapply (wp_two d (opTab (F := F)) (x := eRef) (y := tRef) rfl (by decide) (show eRef ∉ ({tRef} : Finset (DevRef τ sig)) by decide) rfl (V0 m d) _) $$ [Hb He Ht]
  · isplitl [Hb]; · iexact Hb
    isplitl [He]; · iexact He
    iexact Ht
  rw [opTab_tab]
  iintro ⟨Hb, He, Ht⟩
  -- the lookup, from the table, a share of the indices for each row, and the gathered array
  ihave Hx := (Transfers.pointsTo_toks_split fullShare 16) $$ Hx
  icases Hx with ⟨Hxd, Hxt⟩
  iapply ((K (F := F)).wp_run (D (F := F)) 𝒱 (EH := EH) (P := P m) κ d 0) $$ [Hst Ht Hxd Hxt Hg Hb He H2 H3 H4 H5 Hc Hr Ho Hts Hgh]
  isplitr; · iexact Hctx
  isplitl [Hst]; · iexact Hst
  isplitl [Ht Hxt Hg]
  · iapply (Entails.of_eq (tiles_eq m d (m (gLoc d))).symm)
    isplitl [Ht]; · iexact Ht
    isplitl [Hxt]; · iexact Hxt
    iexact Hg
  iintro ⟨Hst, Hdn⟩
  ihave Hdn := (Entails.of_eq (call_back m d)) $$ Hdn
  icases Hdn with ⟨-, Hxt, Hg⟩
  ihave Hx := (Transfers.pointsTo_toks_join fullShare 16) $$ [Hxd Hxt]
  · isplitl [Hxd]; · iexact Hxd
    iexact Hxt
  -- the biases as a column
  iapply (wp_two d (opBias (F := F)) (x := bRef) (y := cRef) rfl (by decide) (show bRef ∉ ({cRef} : Finset (DevRef τ sig)) by decide) rfl (V0 m d) _) $$ [Hb H3 Hc]
  · isplitl [Hb]; · iexact Hb
    isplitl [H3]; · iexact H3
    iexact Hc
  rw [opBias_col]
  iintro ⟨Hb, H3, Hc⟩
  -- the region, the core's dues lent to it
  unfold SparseCore.Cfg.tcSt
  icases Hst with ⟨⟨%W, %hW, HO⟩, Hst⟩
  iapply (region_step m d _)
  isplitl [Hx He H3 Ho Hts Hst]
  swap
  · isplitl [Hb]; · iexact Hb
    isplitl [Hg H2 Hc H4 H5 Hr HO]
    · unfold operands dues
      isplitl [Hg H2 Hc H4 H5]
      · isplitl [Hg]; · iexact Hg
        isplitl [H2]; · iexact H2
        isplitl [Hc]; · iexact Hc
        isplitl [H4]; · iexact H4
        iexact H5
      isplitl [Hr]; · iexact Hr
      iexists W; isplitr; · ipureintro; exact hW
      iapply (Entails.of_eq (congrArg (fun O => owes (SparseCore.T d) O W) ((K (F := F)).Otc_end d (le_refl 1)))); iexact HO
    isplitr
    · iapply (SparseCore.Cfg.ctx_levAts κ); iexact Hctx
    iexact Hgh
  unfold operands result dues
  iintro ⟨Hb, ⟨-, H2, -, H4, H5⟩, ⟨%G, %hG, Hr⟩, %W', %hW', HO⟩
  -- the result transposed
  iapply (wp_two d (opOut (F := F)) (x := rRef) (y := oRef) rfl (by decide) (show rRef ∉ ({oRef} : Finset (DevRef τ sig)) by decide) rfl (V1 m d G) _) $$ [Hb Hr Ho]
  · isplitl [Hb]; · iexact Hb
    rw [show V1 m d G rRef = G from Function.update_self _ _ _, show V1 m d G oRef = m ((SparseCore.T d).loc main_v4) from Function.update_of_ne (by decide) _ _]
    isplitl [Hr]; · iexact Hr
    iexact Ho
  rw [opOut_out]
  iintro ⟨Hb, -, Ho⟩
  imodintro
  isplitl [HO Hst]
  · isplitl [HO]
    · iexists W'; isplitr; · ipureintro; exact hW'
      iapply (Entails.of_eq (congrArg (fun O => owes (SparseCore.T d) O W') ((K (F := F)).Otc_end d (le_refl 1))).symm); iexact HO
    iexact Hst
  isplitr [Hb Hts]
  · unfold FIN
    isplitl [Hx]; · iexact Hx
    isplitl [He]; · iexact He
    isplitl [H2]; · iexact H2
    isplitl [H3]; · iexact H3
    isplitl [H4]; · iexact H4
    isplitl [H5]; · iexact H5
    iexists G; isplitr; · ipureintro; exact hG
    iexact Ho
  isplitl [Hb] <;> iassumption

/-! ## What the launch theorem concludes -/

/-- Device `d`'s final state: the arguments as launched, the result some array the region may leave, transposed. -/
def fq (d : Dev nD) (s' : Phys nD τ sig (Elt F)) : Prop :=
  (s'.mem.mem (xLoc d) = m (xLoc d) ∧ s'.mem.mem (eLoc d) = m (eLoc d) ∧ s'.mem.mem ((SparseCore.T d).loc main_arg2) = m ((SparseCore.T d).loc main_arg2)
    ∧ s'.mem.mem ((SparseCore.T d).loc main_arg3) = m ((SparseCore.T d).loc main_arg3) ∧ s'.mem.mem ((SparseCore.T d).loc main_arg4) = m ((SparseCore.T d).loc main_arg4)
    ∧ s'.mem.mem ((SparseCore.T d).loc main_arg5) = m ((SparseCore.T d).loc main_arg5))
  ∧ ∃ G : Vec F S100000x1024 .f32, (rdat m d).ArrAt 5 cfg1.N G ∧ s'.mem.mem ((SparseCore.T d).loc main_v4) = (outC G : Buf (Elt F) ((SparseCore.T d).loc main_v4))

/-- Holding an array whole, one reads it in the state. -/
theorem reads (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨H0, H1, H2, H3, H4, H5, %G, %hG, Ho⟩, HSI⟩
  ihave H := (reads _ _ s') $$ [H0 HSI]
  · isplitl [H0] <;> iassumption
  icases H with ⟨%h0, HSI⟩
  ihave H := (reads _ _ s') $$ [H1 HSI]
  · isplitl [H1] <;> iassumption
  icases H with ⟨%h1, HSI⟩
  ihave H := (reads _ _ s') $$ [H2 HSI]
  · isplitl [H2] <;> iassumption
  icases H with ⟨%h2, HSI⟩
  ihave H := (reads _ _ s') $$ [H3 HSI]
  · isplitl [H3] <;> iassumption
  icases H with ⟨%h3, HSI⟩
  ihave H := (reads _ _ s') $$ [H4 HSI]
  · isplitl [H4] <;> iassumption
  icases H with ⟨%h4, HSI⟩
  ihave H := (reads _ _ s') $$ [H5 HSI]
  · isplitl [H5] <;> iassumption
  icases H with ⟨%h5, HSI⟩
  ihave H := (reads _ _ s') $$ [Ho HSI]
  · isplitl [Ho] <;> iassumption
  icases H with ⟨%ho, -⟩
  ipureintro
  exact ⟨⟨h0, h1, h2, h3, h4, h5⟩, G, hG, ho⟩

/-- What every final state shows: on each device as `fq` says, every semaphore counter at zero. -/
def QC : PUnit × MemSt nD τ sig (Elt F) → Prop := fun r =>
  (∀ d : Dev nD,
    (r.2.mem (xLoc d) = m (xLoc d) ∧ r.2.mem (eLoc d) = m (eLoc d) ∧ r.2.mem ((SparseCore.T d).loc main_arg2) = m ((SparseCore.T d).loc main_arg2)
      ∧ r.2.mem ((SparseCore.T d).loc main_arg3) = m ((SparseCore.T d).loc main_arg3) ∧ r.2.mem ((SparseCore.T d).loc main_arg4) = m ((SparseCore.T d).loc main_arg4)
      ∧ r.2.mem ((SparseCore.T d).loc main_arg5) = m ((SparseCore.T d).loc main_arg5))
    ∧ ∃ G : Vec F S100000x1024 .f32, (rdat m d).ArrAt 5 cfg1.N G ∧ r.2.mem ((SparseCore.T d).loc main_v4) = (outC G : Buf (Elt F) ((SparseCore.T d).loc main_v4)))
  ∧ r.2.sem = fun _ => 0

/-- From any memory whose indices name lanes of the table, the program runs, faulting nowhere, and every final state is as `QC` says. -/
theorem run_main (hx : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hx facts)
    (fun q _ => match q with | 0 => SparseCore.Cfg.VecSplit.of_plain (vecSplit m))
    m ρ main (fun d => regGhost (F := F) d) (FIN m) (u₀ (F := F)) (sep_elim_left.trans (hu₀ m)) (hmain m ρ) (fq m) (hfin m) (QC m) (fun _ h hz => ⟨h, hz⟩)

end Cert.Proof.Lookup

end
-- ==== Proof.Value.lean ====
/-
  What the kernel computes, at the extended reals: the hidden layer and the result at an index, the payloads of the
  dense kernel read there, its windows' blocks read where their transfers move, and the result's array after the run.
-/
module

public import proofs.«01_k».proof.Proof.Run
public import Idealize.ShloMosaic.Lib.Pipeline.ArrRel
public import Idealize.ShloMosaic.Lib.Pipeline.ValueKit.Geometry
public import Idealize.ShloMosaic.Lib.Pointwise
public import Idealize.ShloMosaic.Lib.ValueLayout
public import Idealize.ShloMosaic.Lib.ValueLayoutCasts
public import Idealize.ShloMosaic.Lib.IdealHost

@[expose] public section

noncomputable section

namespace Cert.Proof.Lookup

open Cert.KernelIdeal Cert.KernelIdeal.Gen

open Idealize.ShloMosaic
open Idealize.ShloMosaic.TcCoe
open Idealize.ShloMosaic.Pipeline (Dat RDat Cfg Window)

variable (m : (ℓ : Loc nD τ sig) → Buf (Elt Ideal) ℓ)

/-- The table, the two weights and the two biases, as arrays of extended reals. -/
def embA (c : Dev nD) : S100000x16.Idx → EReal := m (eLoc c)
def w1A (c : Dev nD) : S16x16.Idx → EReal := m ((SparseCore.T c).loc main_arg2)
def b1A (c : Dev nD) : S16.Idx → EReal := m ((SparseCore.T c).loc main_arg3)
def w2A (c : Dev nD) : S16x100000.Idx → EReal := m ((SparseCore.T c).loc main_arg4)
def b2A (c : Dev nD) : S100000.Idx → EReal := m ((SparseCore.T c).loc main_arg5)

/-- Unit `k` of the hidden layer for lookup `i`. -/
def hidAt (c : Dev nD) (k : Fin 16) (i : Fin 1024) : EReal :=
  max ((∑ j : Fin 16, w1A m c (ix2 j k) * embA m c (ix2 (lane m c i) j)) + b1A m c (ix1 k)) 0

/-- Entry `v` of the result for lookup `i`. -/
def outAt (c : Dev nD) (i : Fin 1024) (v : Fin 100000) : EReal :=
  (∑ k : Fin 16, w2A m c (ix2 k v) * hidAt m c k i) + b2A m c (ix1 v)

theorem gathC_apply (c : Dev nD) (j : Fin 16) (i : Fin 1024) : gathC m c (ix2 j i) = embA m c (ix2 (lane m c i) j) :=
  ValueIdx.transpose_ix2_apply (m (eLoc c) : Vec Ideal S100000x16 .f32) transposes_S100000x16_S16x100000_1_0 j (lane m c i)

theorem biasC_apply (c : Dev nD) (k : Fin 16) : biasC m c (ix2 k (0 : Fin 1)) = b1A m c (ix1 k) :=
  ValueIdx.shapeCast_a_a1_apply (m ((SparseCore.T c).loc main_arg3) : Vec Ideal S16 .f32) shapeCasts_S16_S16x1 k 0

/-- The scratch the dense kernel multiplies by: the hidden layer in its first sixteen rows, ones in its last. -/
theorem hidC_apply (c : Dev nD) (k : Fin 17) (i : Fin 1024) :
    hidC m c (ix2 k i) = if h : k.val < 16 then hidAt m c ⟨k.val, h⟩ i else (1 : EReal) := by
  unfold hidC
  pointwise [k1_pay1]
  by_cases h : k.val < 16
  · rw [dif_pos h, dif_pos h]
    refine congrArg₂ (fun a b : EReal => max (a + b) 0) (Finset.sum_congr rfl fun j _ => ?_) (biasC_apply m c ⟨k.val, h⟩)
    exact congrArg (w1A m c (ix2 j ⟨k.val, h⟩) * ·) (gathC_apply m c j i)
  · rw [dif_neg h, dif_neg h]

theorem stack_lt (w : Vec Ideal S16x2048 .f32) (b : Vec Ideal S2048 .f32) (k : Fin 16) (r : Fin 2048) :
    stack w b (ix2 k.castSucc r) = w (ix2 k r) := dif_pos k.isLt
theorem stack_last (w : Vec Ideal S16x2048 .f32) (b : Vec Ideal S2048 .f32) (r : Fin 2048) :
    stack w b (ix2 (Fin.last 16) r) = b (ix1 r) := dif_neg (Nat.lt_irrefl 16)
theorem hidC_lt (c : Dev nD) (k : Fin 16) (i : Fin 1024) : hidC m c (ix2 k.castSucc i) = hidAt m c k i :=
  (hidC_apply m c k.castSucc i).trans (dif_pos k.isLt)
theorem hidC_last (c : Dev nD) (i : Fin 1024) : hidC m c (ix2 (Fin.last 16) i) = (1 : EReal) :=
  (hidC_apply m c (Fin.last 16) i).trans (dif_neg (Nat.lt_irrefl 16))

/-- A block of the stacked operand times that scratch, at an index. -/
theorem pay4_apply (c : Dev nD) (w : Vec Ideal S16x2048 .f32) (b : Vec Ideal S2048 .f32) (r : Fin 2048) (i : Fin 1024) :
    k1_pay4 (stack w b) (hidC m c) (ix2 r i) = (∑ k : Fin 16, (w (ix2 k r) : EReal) * hidAt m c k i) + (b (ix1 r) : EReal) := by
  pointwise [k1_pay4]
  rw [Fin.sum_univ_castSucc, stack_last, hidC_last, mul_one]
  exact congrArg (· + (b (ix1 r) : EReal)) (Finset.sum_congr rfl fun k _ => by rw [stack_lt, hidC_lt])

/-! ## The blocks where the transfers move -/

/-- A window cut at the array's end moves a position of the block exactly when the array has it. -/
theorem lt_extent {t r B N : ℕ} (hr : r < B) (h : t * B + r < N) : r < (Pipeline.Clip.of t B N).extent B := by
  unfold Pipeline.Clip.of
  split
  · exact hr
  · show r < N - t * B
    omega

theorem ix1_3 (t : Fin cfg1.N) : win1_3.index t = ![0, t.val] :=
  (by decide +kernel : ∀ t : Fin grid1.N, win1_3.index t = ![0, t.val]) t
theorem ix1_4 (t : Fin cfg1.N) : win1_4.index t = ![t.val] :=
  (by decide +kernel : ∀ t : Fin grid1.N, win1_4.index t = ![t.val]) t
theorem ix1_5 (t : Fin cfg1.N) : win1_5.index t = ![t.val, 0] :=
  (by decide +kernel : ∀ t : Fin grid1.N, win1_5.index t = ![t.val, 0]) t

theorem blkC_3 (c : Dev nD) (t : Fin cfg1.N) (d) (k : Fin 16) (r : Fin 2048) (h : t.val * 2048 + r.val < 100000) :
    blkC m c 3 t d (ix2 k r) = w2A m c (ix2 k ⟨t.val * 2048 + r.val, h⟩) := by
  have hm : (cfg1.win 3).moved (cfg1.grid.coords t) (ix2 k r) = true := ((cfg1.win 3).moved_iff _ _).2 fun a => by
    match a with
    | ⟨0, _⟩ => exact lt_extent (t := 0) (N := 16) k.isLt (by rw [Nat.zero_mul, Nat.zero_add]; exact k.isLt)
    | ⟨1, _⟩ => exact lt_extent (t := win1_3.index t 1) r.isLt (by rw [ix1_3]; exact h)
  unfold blkC Pipeline.Window.fill
  rw [dif_pos hm]
  blk_simp
  show w2A m c _ = _
  congr 1; funext a; refine Fin.ext ?_
  fin_cases a
  · blk_simp [ix1_3]; rfl
  · blk_simp [ix1_3]; rfl

theorem blkC_4 (c : Dev nD) (t : Fin cfg1.N) (d) (r : Fin 2048) (h : t.val * 2048 + r.val < 100000) :
    blkC m c 4 t d (ix1 r) = b2A m c (ix1 ⟨t.val * 2048 + r.val, h⟩) := by
  have hm : (cfg1.win 4).moved (cfg1.grid.coords t) (ix1 r) = true := ((cfg1.win 4).moved_iff _ _).2 fun a => by
    match a with
    | ⟨0, _⟩ => exact lt_extent (t := win1_4.index t 0) r.isLt (by rw [ix1_4]; exact h)
  unfold blkC Pipeline.Window.fill
  rw [dif_pos hm]
  blk_simp
  show b2A m c _ = _
  congr 1; funext a; refine Fin.ext ?_
  fin_cases a
  blk_simp [ix1_4]; rfl

/-! ## The result -/

/-- What the body may leave in the result's window is, at a position whose row the array has, the result there. -/
theorem res_apply (c : Dev nD) (t : Fin cfg1.N) (X) (hX : Res m c 5 t X) (r : Fin 2048) (i : Fin 1024) (h : t.val * 2048 + r.val < 100000) :
    X (ix2 r i) = outAt m c i ⟨t.val * 2048 + r.val, h⟩ := by
  obtain ⟨d3, d4, e⟩ := hX rfl
  have e' : X = k1_pay4 (stack (blkC m c 3 t d3) (blkC m c 4 t d4)) (hidC m c) := e
  rw [e', pay4_apply]
  exact congrArg₂ (fun a b : EReal => a + b)
    (Finset.sum_congr rfl fun k _ => congrArg (fun a : EReal => a * hidAt m c k i) (blkC_3 m c t d3 k r h)) (blkC_4 m c t d4 r h)

/-- Where the result's window puts a position of its block. -/
theorem emb_row (t : Fin cfg1.N) (y : (win1_5.xblock (grid1.coords t)).Idx) : ((win1_5.blk t).view.emb y 0 : ℕ) = t.val * 2048 + (y 0).val := by
  blk_simp [ix1_5]
theorem emb_lane (t : Fin cfg1.N) (y : (win1_5.xblock (grid1.coords t)).Idx) : ((win1_5.blk t).view.emb y 1 : ℕ) = (y 1).val := by
  have e := ValueKit.view_emb_slice_whole_unit_val main_v3 _ _ (fun a => Pipeline.Clip.OkAt.inb (win1_5.hclip (grid1.coords t) a)) y 1
  refine e.trans ?_
  show win1_5.index t 1 * 1024 + (y 1).val = _
  rw [ix1_5]
  exact (congrArg (· + (y 1).val) (Nat.zero_mul 1024)).trans (Nat.zero_add _)

/-- The array the region leaves holds the result, transposed. -/
theorem arr_apply (c : Dev nD) (G : Vec Ideal S100000x1024 .f32) (hG : (rdat m c).ArrAt 5 cfg1.N G) (v : Fin 100000) (i : Fin 1024) :
    G (ix2 v i) = outAt m c i v := by
  obtain ⟨X, hX, hA⟩ := hG.exists_exact
  have hG' := hA (fun w t => if h : w = 5 then h ▸ X t else fun _ => Classical.arbitrary _) (fun u _ _ => rfl)
  rw [hG']
  refine ((rdat m c).withAfter _).arrAt_forall_of_covers 5 (fun j x => x = outAt m c (j 1) (j 0)) (by decide +kernel) (fun t hf y => ?_) (ix2 v i)
  have e0 := emb_row t y
  have e1 := emb_lane t y
  have h : t.val * 2048 + (y 0).val < 100000 := e0 ▸ ((((cfg1.win 5).blk t).view.emb y) 0).isLt
  have hx : X t ((cfg1.win 5).xinj (cfg1.grid.coords t) y) = outAt m c (((cfg1.win 5).xinj (cfg1.grid.coords t) y) 1) ⟨t.val * 2048 + (y 0).val, h⟩ := by
    rw [show (cfg1.win 5).xinj (cfg1.grid.coords t) y = ix2 (((cfg1.win 5).xinj (cfg1.grid.coords t) y) 0) (((cfg1.win 5).xinj (cfg1.grid.coords t) y) 1) from eq_ix2 _]
    exact res_apply m c t (X t) ((dat m c).toRRel_leaves (by decide) (hX t t.isLt hf)) _ _ h
  refine Eq.trans hx (congrArg₂ (outAt m c) (Fin.ext ?_) (Fin.ext ?_))
  · exact e1.symm
  · exact e0.symm

/-- The program's result: transposed once more, it holds `outAt`. -/
theorem out_apply (c : Dev nD) (G : Vec Ideal S100000x1024 .f32) (hG : (rdat m c).ArrAt 5 cfg1.N G) (i : Fin 1024) (v : Fin 100000) :
    outC G (ix2 i v) = outAt m c i v := by
  unfold outC
  rw [ix2_eq_valueIdx, ValueIdx.transpose_ix2_apply G transposes_S100000x1024_S1024x100000_1_0 i v, ← ix2_eq_valueIdx]
  exact arr_apply m c G hG v i

end Cert.Proof.Lookup

end
-- ==== Proof.RefValue.lean ====
/-
  What the reference computes, at the extended reals, where every index names a row of the table: the row the lookup
  takes, and the result at an index.
-/
module

public import proofs.«01_k».proof.Proof.Gen.ReferenceIdeal.Run
public import Idealize.ShloMosaic.Lib.Pointwise
public import Idealize.ShloMosaic.Lib.ReduceAll
public import Idealize.ShloMosaic.Lib.WordCmp
public import Idealize.ShloMosaic.Lib.Routing.Ops
public import Idealize.ShloMosaic.Lib.StableHlo.Predicate

@[expose] public section

noncomputable section

namespace Cert.Proof.LookupRef

open Cert.ReferenceIdeal Cert.ReferenceIdeal.Gen
open Idealize.ShloMosaic

/-- The row indices the lookup reads with: a negative one counted from the table's end, as a column. -/
def ixR (a0 : IVec S1024 32) : IVec S1024x1 32 :=
  broadcastInDim S1024x1 ![0] bcast_S1024_S1024x1_0 (select (cmpi .slt a0 (broadcastInDim S1024 ![] bcast_S_S1024 (constantI S_ 32 0#32))) (addi a0 (broadcastInDim S1024 ![] bcast_S_S1024 (constantI S_ 32 100000#32))) a0)

/-- The rows the lookup takes: those whose index lies outside the table are filled in. -/
def rowsR (a0 : IVec S1024 32) (a1 : FVec Ideal S100000x16 .f32) : FVec Ideal S1024x16 .f32 :=
  select (broadcastInDim S1024x16 ![0] bcast_S1024_S1024x16_0 (Host.reduce IntOp.andi (andi (cmpi .sge (ixR a0) (broadcastInDim S1024x1 ![] bcast_S_S1024x1 (constantI S_ 32 0#32))) (cmpi .sle (ixR a0) (broadcastInDim S1024x1 ![0, 1] bcast_S1x1_S1024x1_0_1 (broadcastInDim S1x1 ![1] bcast_S1_S1x1_1 (constantI S1 32 99999#32))))) (constantI S_ 1 1#1) reducesTo_S1024x1_S1024_d1 h_S_)) (Host.gather gather_S100000x16_S1024x1_S1024x16_1_0_n_n_0_1_116 (a1) (ixR a0)) (broadcastInDim S1024x16 ![] bcast_S_S1024x16 (constant S_ .f32 0x7FC00000#32))

/-- The result. -/
def outR (a0 : IVec S1024 32) (a1 : FVec Ideal S100000x16 .f32) (a2 : FVec Ideal S16x16 .f32) (a3 : FVec Ideal S16 .f32)
    (a4 : FVec Ideal S16x100000 .f32) (a5 : FVec Ideal S100000 .f32) : FVec Ideal S1024x100000 .f32 :=
  addf (Host.dotGeneral dot_S1024x16_S16x100000_S1024x100000_1_0_0_1_n_n none (maximumf (addf (Host.dotGeneral dot_S1024x16_S16x16_S1024x16_1_0_0_1_n_n none (rowsR a0 a1) (a2)) (broadcastInDim S1024x16 ![0, 1] bcast_S1x16_S1024x16_0_1 (broadcastInDim S1x16 ![1] bcast_S16_S1x16_1 (a3)))) (broadcastInDim S1024x16 ![] bcast_S_S1024x16 (constant S_ .f32 0x00000000#32))) (a4)) (broadcastInDim S1024x100000 ![0, 1] bcast_S1x100000_S1024x100000_0_1 (broadcastInDim S1x100000 ![1] bcast_S100000_S1x100000_1 (a5)))

/-- An index below the table's rows is not below zero, so it is taken as it stands. -/
theorem ixR_apply (a0 : IVec S1024 32) (hx : ∀ i, (a0 i).toNat < 100000) (i : Fin 1024) (u : Fin 1) : ixR a0 (ix2 i u) = a0 (ix1 i) := by
  unfold ixR
  pointwise
  have h := hx (ix1 i)
  rw [WordCmp.cmpi_slt_zero, decide_eq_false (by omega)]
  rfl

/-- No row is filled in. -/
theorem rowsR_apply (a0 : IVec S1024 32) (hx : ∀ i, (a0 i).toNat < 100000) (a1 : FVec Ideal S100000x16 .f32) (i : Fin 1024) (j : Fin 16) :
    rowsR a0 a1 (ix2 i j) = a1 (ix2 ⟨(a0 (ix1 i)).toNat, hx _⟩ j) := by
  unfold rowsR
  have h := hx (ix1 i)
  have hg : Host.gather gather_S100000x16_S1024x1_S1024x16_1_0_n_n_0_1_116 a1 (ixR a0) (ix2 i j) = a1 (ix2 ⟨(a0 (ix1 i)).toNat, h⟩ j) := by
    rw [ix2_eq_valueIdx, ix2_eq_valueIdx]
    refine Routing.gather_row _ rfl rfl rfl rfl rfl a1 (ixR a0) i j ⟨(a0 (ix1 i)).toNat, h⟩ ?_ (by decide)
    rw [← ix2_eq_valueIdx, ixR_apply a0 hx]
    exact BitVec.eq_of_toNat_eq (by rw [BitVec.toNat_ofNat, Nat.mod_eq_of_lt (by omega)])
  pointwise [hg, ixR_apply a0 hx]
  have h0 : IntOp.cmpi .sge (a0 (ix1 i)) 0#32 = 1#1 :=
    (StableHlo.Predicate.sge_iff_toNat (by omega) (by decide)).2 (Nat.zero_le _)
  have h1 : IntOp.cmpi .sle (a0 (ix1 i)) 99999#32 = 1#1 :=
    (StableHlo.Predicate.sle_iff_toNat (by omega) (by decide)).2 (Nat.le_of_lt_succ h)
  rw [h0, h1, show (Finset.univ : Finset (Fin 1)) = {0} from rfl, Finset.fold_singleton]
  rfl

theorem outR_apply (a0 : IVec S1024 32) (hx : ∀ i, (a0 i).toNat < 100000) (a1 : FVec Ideal S100000x16 .f32) (a2 : FVec Ideal S16x16 .f32)
    (a3 : FVec Ideal S16 .f32) (a4 : FVec Ideal S16x100000 .f32) (a5 : FVec Ideal S100000 .f32) (i : Fin 1024) (v : Fin 100000) :
    outR a0 a1 a2 a3 a4 a5 (ix2 i v)
      = (∑ k : Fin 16, max ((∑ j : Fin 16, (a1 (ix2 ⟨(a0 (ix1 i)).toNat, hx _⟩ j) : EReal) * a2 (ix2 j k)) + (a3 (ix1 k) : EReal)) 0 * (a4 (ix2 k v) : EReal))
        + (a5 (ix1 v) : EReal) := by
  unfold outR
  pointwise [rowsR_apply a0 hx]

end Cert.Proof.LookupRef

end
-- ==== Proof.Bounds.lean ====
/-
  What the precondition says of the index words: each is the number of a row of the table.
-/
module

public import proofs.«01_k».proof.Pre_in_range
public import Idealize.ShloMosaic.Lib.Pointwise
public import Idealize.ShloMosaic.Lib.ReduceAll
public import Idealize.ShloMosaic.Lib.WordCmp

@[expose] public section

namespace Cert.Proof

open Idealize.ShloMosaic Cert.Pre_in_range

/-- Where the precondition's word is one, every index is below the number of the table's rows. -/
theorem lt_of_in_range [Facts] {F : FTy → Type} [FloatOps F] (a0 : IVec S1024 32) (a1 : FVec F S100000x16 .f32) (a2 : FVec F S16x16 .f32)
    (a3 : FVec F S16 .f32) (a4 : FVec F S16x100000 .f32) (a5 : FVec F S100000 .f32)
    (h : fn a0 a1 a2 a3 a4 a5 = fun _ => 1#1) (i : S1024.Idx) : (a0 i).toNat < 100000 := by
  haveI : Subsingleton S_.Idx := ⟨fun a b => funext fun x => x.elim0⟩
  have e := Host.reduce_andi_all _ _ _ _ ix0 (congrFun h ix0) i
  have e' : IntOp.andi (IntOp.cmpi .sge (a0 i) 0#32) (IntOp.cmpi .slt (a0 i) (BitVec.ofNat 32 100000)) = 1#1 := e
  rw [WordCmp.andi_sge_zero_slt_ofNat (by decide)] at e'
  by_contra hn
  rw [decide_eq_false hn] at e'
  exact absurd e' (by decide)

end Cert.Proof
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Value
public import proofs.«01_k».proof.Proof.RefValue
public import proofs.«01_k».proof.Proof.Bounds
public import Idealize.ShloMosaic.Adequacy
public import Idealize.ShloMosaic.Init

@[expose] public section

noncomputable section

namespace Cert.Proof

open Idealize.ShloMosaic Idealize.SL.Sem
open Idealize.ShloMosaic.TcCoe

/-- The two programs have the same bodies: label by label and processor by processor they are the same text. -/
theorem bodies_eq : Cert.Kernel.defs₀ (F := Bits) = Cert.KernelIdeal.defs₀ (F := Bits) := by
  funext k ℓ a
  match k, ℓ, a with
  | .scVector c s, 0, _ => rfl
  | .scVector c s, 1, _ => rfl
  | .tc, 1, (t, s) => rfl
  | .tc, 0, _ => rfl
  | .scScalar _, 0, _ => rfl
  | .scScalar _, 1, _ => rfl

/-- So their body tables are the same. -/
theorem defs_eq : Cert.Kernel.defs (F := Bits) = Cert.KernelIdeal.defs (F := Bits) :=
  congrArg (fun b => (Cert.KernelIdeal.sc (F := Bits)).defs (Pipeline.defs (Cert.KernelIdeal.pcfgs (F := Bits)) b))
    bodies_eq

/-- The kernel as written runs and leaves its arguments and its counters as they were. -/
theorem frame_kernel : Cert.quiescent_Kernel := by
  intro m ρ hpre
  have hx : Lookup.InRange (F := Bits) m := fun d j => lt_of_in_range _ _ _ _ _ _ (hpre d) j
  have h := (θ_run (Cert.KernelIdeal.defs (F := Bits)) (Cert.KernelIdeal.threads (F := Bits)) ⟨m, fun _ => 0, ρ⟩).mono (Q := Lookup.QC (F := Bits) m) (fun r h => (⟨fun c => (h.1 c).1, h.2⟩ : _ ∧ _))
    (Lookup.run_main (F := Bits) m ρ hx)
  rw [← defs_eq] at h
  exact h

/-- The same of the kernel at the extended reals. -/
theorem frame_ideal : Cert.quiescent_KernelIdeal := fun m ρ hpre =>
  (θ_run Cert.KernelIdeal.defs _ _).mono (fun _ h => ⟨fun c => (h.1 c).1, h.2⟩)
    (Lookup.run_main (F := Ideal) m ρ fun d j => lt_of_in_range _ _ _ _ _ _ (hpre d) j)

/-- The reference runs and leaves its arguments as they were; it has no counter. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result, as an array. -/
def resC (m : (ℓ : Loc Cert.KernelIdeal.nD Cert.KernelIdeal.τ Cert.KernelIdeal.sig) → Buf (Elt Ideal) ℓ) (c : Dev Cert.KernelIdeal.nD) :
    Vec Ideal Cert.KernelIdeal.S1024x100000 .f32 := fun p => Lookup.outAt m c (p 0) (p 1)

/-- The reference's result of the kernel's arguments is the kernel's result: the two multiply in opposite orders. -/
theorem outR_eq (m : (ℓ : Loc Cert.KernelIdeal.nD Cert.KernelIdeal.τ Cert.KernelIdeal.sig) → Buf (Elt Ideal) ℓ) (hx : Lookup.InRange m)
    (c : Dev Cert.KernelIdeal.nD) :
    LookupRef.outR (m (Lookup.xLoc c)) (Lookup.embA m c) (Lookup.w1A m c) (Lookup.b1A m c) (Lookup.w2A m c) (Lookup.b2A m c) = resC m c := by
  funext p
  refine (congrArg _ (eq_ix2 p)).trans ((LookupRef.outR_apply _ (hx c) _ _ _ _ _ (p 0) (p 1)).trans ?_)
  have hl : ∀ i, (⟨(m (Lookup.xLoc c) (ix1 i) : BitVec 32).toNat, hx c _⟩ : Fin 100000) = Lookup.lane m c i := fun i =>
    Fin.ext (by
      show _ = (m (Lookup.xLoc c) (ValueIdx.ix1 i) : BitVec 32).toNat % 100000
      rw [← ix1_eq_valueIdx]; exact (Nat.mod_eq_of_lt (hx c _)).symm)
  refine congrArg (· + Lookup.b2A m c (ix1 (p 1))) (Finset.sum_congr rfl fun k _ => ?_)
  refine (mul_comm _ _).trans (congrArg (Lookup.w2A m c (ix2 k (p 1)) * ·) ?_)
  refine congrArg (fun a : EReal => max (a + Lookup.b1A m c (ix1 k)) 0) (Finset.sum_congr rfl fun j _ => ?_)
  exact (mul_comm _ _).trans (congrArg (fun l => Lookup.w1A m c (ix2 j k) * Lookup.embA m c (ix2 l j)) (hl (p 0)))

/-- At the extended reals the kernel and the reference end with one result. -/
theorem same : Cert.algebraic_KernelIdeal_ReferenceIdeal := by
  intro m ρ m' ρ' hpre hag
  have hx : Lookup.InRange m := fun d j => lt_of_in_range _ _ _ _ _ _ (hpre d) j
  refine ⟨fun c => resC m c, (θ_run Cert.KernelIdeal.defs _ _).mono (fun _ h c => ?_) (Lookup.run_main (F := Ideal) m ρ hx),
    (θ_run Cert.ReferenceIdeal.defs _ _).mono (fun _ h c => ⟨(h c).1.trans ?_, (h c).2⟩) (Cert.ReferenceIdeal.Value.run (F := Ideal) m' ρ')⟩
  · obtain ⟨ha, G, hG, ho⟩ := h.1 c
    refine ⟨ho.trans (funext fun p => ?_), ha⟩
    rw [eq_ix2 p]
    exact Lookup.out_apply m c G hG (p 0) (p 1)
  · obtain ⟨e0, e1, e2, e3, e4, e5⟩ := hag c
    rw [e0, e1, e2, e3, e4, e5]
    exact outR_eq m hx c

theorem claim : Cert.Claim := ⟨Cert.Kernel.Gen.facts, Cert.KernelIdeal.Gen.facts, Cert.ReferenceIdeal.Gen.facts, Cert.Pre_in_range.Gen.facts,
  frame_kernel, frame_ideal, frame_ref, fun m ρ _ => frame_ref m ρ trivial, trivial, same⟩

end Cert.Proof

end
